-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S256x128 : Shape := ⟨2, ![256, 128]⟩
abbrev S256 : Shape := ⟨1, ![256]⟩
abbrev S256x640 : Shape := ⟨2, ![256, 640]⟩
abbrev S640 : Shape := ⟨1, ![640]⟩
abbrev S1x640 : Shape := ⟨2, ![1, 640]⟩
abbrev S256x1 : Shape := ⟨2, ![256, 1]⟩
abbrev S256x640x1 : Shape := ⟨3, ![256, 640, 1]⟩
abbrev S256x1x128 : Shape := ⟨3, ![256, 1, 128]⟩
abbrev S_ : Shape := ⟨0, ![]⟩
abbrev S256x640x128 : Shape := ⟨3, ![256, 640, 128]⟩

class Facts : Prop where
  bcast_S640_S1x640_1 : S640.BroadcastsInDim S1x640 (![1] : Fin 1 → Fin S1x640.rank)
  bcast_S256_S256x1_0 : S256.BroadcastsInDim S256x1 (![0] : Fin 1 → Fin S256x1.rank)
  bcast_S1x640_S256x640_0_1 : S1x640.BroadcastsInDim S256x640 (![0, 1] : Fin 2 → Fin S256x640.rank)
  bcast_S256x1_S256x640_0_1 : S256x1.BroadcastsInDim S256x640 (![0, 1] : Fin 2 → Fin S256x640.rank)
  bcast_S256x640_S256x640x1_0_1 : S256x640.BroadcastsInDim S256x640x1 (![0, 1] : Fin 2 → Fin S256x640x1.rank)
  bitsLt_bf16_f32 : FTy.bits .bf16 < FTy.bits .f32
  bcast_S256x1_S256x128_0_1 : S256x1.BroadcastsInDim S256x128 (![0, 1] : Fin 2 → Fin S256x128.rank)
  bcast_S256x128_S256x1x128_0_2 : S256x128.BroadcastsInDim S256x1x128 (![0, 2] : Fin 2 → Fin S256x1x128.rank)
  bcast_S256x640x1_S256x640x128_0_1_2 : S256x640x1.BroadcastsInDim S256x640x128 (![0, 1, 2] : Fin 3 → Fin S256x640x128.rank)
  bcast_S256x1x128_S256x640x128_0_1_2 : S256x1x128.BroadcastsInDim S256x640x128 (![0, 1, 2] : Fin 3 → Fin S256x640x128.rank)
  bcast_S_S256x640x128 : S_.BroadcastsInDim S256x640x128 (![] : Fin 0 → Fin S256x640x128.rank)
  reducesTo_S256x640x128_S256x640_d2 : S256x640x128.ReducesTo [2] S256x640
  h_S_ : 0 < S_.numel
  bcast_S_S256x640 : S_.BroadcastsInDim S256x640 (![] : Fin 0 → Fin S256x640.rank)

variable [Facts]

def fn_where {F : FTy → Type} [FloatOps F] (arg0 : IVec S256x640x1 1) (arg1 : FVec F S256x1x128 .f32) (arg2 : FVec F S_ .f32) : FVec F S256x640x128 .f32 :=
  let v0 : FVec F S_ .f32 := id arg2
  let v1 : IVec S256x640x128 1 := broadcastInDim S256x640x128 ![0, 1, 2] bcast_S256x640x1_S256x640x128_0_1_2 arg0
  let v2 : FVec F S256x640x128 .f32 := broadcastInDim S256x640x128 ![0, 1, 2] bcast_S256x1x128_S256x640x128_0_1_2 arg1
  let v3 : FVec F S256x640x128 .f32 := broadcastInDim S256x640x128 ![] bcast_S_S256x640x128 v0
  let v4 : FVec F S256x640x128 .f32 := select v1 v2 v3
  v4

def fn {F : FTy → Type} [FloatOps F] (main_arg0 : FVec F S256x128 .bf16) (main_arg1 : IVec S256 32) (main_arg2 : FVec F S256x640 .f32) : IVec S256x640 1 :=
  let main_v0 : IVec S640 32 := iotaInDim S640 32 0
  let main_v1 : IVec S1x640 32 := broadcastInDim S1x640 ![1] bcast_S640_S1x640_1 main_v0
  let main_v2 : IVec S256x1 32 := broadcastInDim S256x1 ![0] bcast_S256_S256x1_0 main_arg1
  let main_v3 : IVec S256x640 32 := broadcastInDim S256x640 ![0, 1] bcast_S1x640_S256x640_0_1 main_v1
  let main_v4 : IVec S256x640 32 := broadcastInDim S256x640 ![0, 1] bcast_S256x1_S256x640_0_1 main_v2
  let main_v5 : IVec S256x640 1 := cmpi .slt main_v3 main_v4
  let main_v6 : IVec S256x640x1 1 := broadcastInDim S256x640x1 ![0, 1] bcast_S256x640_S256x640x1_0_1 main_v5
  let main_v7 : FVec F S256x128 .f32 := (extf .f32 · bitsLt_bf16_f32) main_arg0
  let main_v8 : FVec F S256 .f32 := sitofp .f32 main_arg1
  let main_v9 : FVec F S256x1 .f32 := broadcastInDim S256x1 ![0] bcast_S256_S256x1_0 main_v8
  let main_v10 : FVec F S256x128 .f32 := broadcastInDim S256x128 ![0, 1] bcast_S256x1_S256x128_0_1 main_v9
  let main_v11 : FVec F S256x128 .f32 := Host.divf main_v7 main_v10
  let main_v12 : FVec F S256x1x128 .f32 := broadcastInDim S256x1x128 ![0, 2] bcast_S256x128_S256x1x128_0_2 main_v11
  let main_cst : FVec F S_ .f32 := constant S_ .f32 0x00000000#32
  let main_v13 : FVec F S256x640x128 .f32 := fn_where (F := F) main_v6 main_v12 main_cst
  let main_v14 : FVec F S256x640x1 .f32 := broadcastInDim S256x640x1 ![0, 1] bcast_S256x640_S256x640x1_0_1 main_arg2
  let main_v15 : FVec F S256x640x128 .f32 := broadcastInDim S256x640x128 ![0, 1, 2] bcast_S256x640x1_S256x640x128_0_1_2 main_v14
  let main_v16 : FVec F S256x640x128 .f32 := mulf main_v15 main_v13
  let main_v17 : FVec F S256x640x128 .f32 := Host.absf main_v16
  let main_cst_0 : FVec F S_ .f32 := constant S_ .f32 0xFF800000#32
  let main_v18 : FVec F S256x640 .f32 := (fun x v => Host.reduce FloatOps.maximumf x v reducesTo_S256x640x128_S256x640_d2 h_S_) main_v17 main_cst_0
  let main_cst_1 : FVec F S_ .f32 := constant S_ .f32 0x7F7FFFFF#32
  let main_v19 : FVec F S256x640 .f32 := broadcastInDim S256x640 ![] bcast_S_S256x640 main_cst_1
  let main_v20 : IVec S256x640 1 := cmpf .ole main_v18 main_v19
  main_v20
-- ==== Kernel.lean ====
abbrev S256x128 : Shape := ⟨2, ![256, 128]⟩
abbrev S256 : Shape := ⟨1, ![256]⟩
abbrev S256x640 : Shape := ⟨2, ![256, 640]⟩
abbrev S256x640x128 : Shape := ⟨3, ![256, 640, 128]⟩
abbrev S8x128 : Shape := ⟨2, ![8, 128]⟩
abbrev S8x640 : Shape := ⟨2, ![8, 640]⟩
abbrev S8x640x128 : Shape := ⟨3, ![8, 640, 128]⟩
abbrev S8x1 : Shape := ⟨2, ![8, 1]⟩
abbrev S1 : Shape := ⟨1, ![1]⟩
abbrev S8 : Shape := ⟨1, ![8]⟩
abbrev S640x8 : Shape := ⟨2, ![640, 8]⟩
abbrev S640x1 : Shape := ⟨2, ![640, 1]⟩
abbrev S1x128 : Shape := ⟨2, ![1, 128]⟩
abbrev S640x128 : Shape := ⟨2, ![640, 128]⟩
abbrev S1x640x128 : Shape := ⟨3, ![1, 640, 128]⟩

abbrev nBuf : Space → Nat
  | .hbm => 5
  | .vmem => 8
  | .smem => 1
  | _ => 0

abbrev bufTy : (tb : Table) → Fin (tcTables nBuf tb) → BufTy
  | .hbm, ⟨0, _⟩ => ⟨S256x128, .bf16⟩
  | .hbm, ⟨1, _⟩ => ⟨S256, .i32⟩
  | .hbm, ⟨2, _⟩ => ⟨S256x640, .f32⟩
  | .hbm, ⟨3, _⟩ => ⟨S256x640x128, .fp8e5m2⟩
  | .hbm, ⟨4, _⟩ => ⟨S256x640, .f32⟩
  | .local _ .vmem, ⟨0, _⟩ => ⟨S8x128, .bf16⟩
  | .local _ .vmem, ⟨1, _⟩ => ⟨S8x128, .bf16⟩
  | .local _ .vmem, ⟨2, _⟩ => ⟨S8x640, .f32⟩
  | .local _ .vmem, ⟨3, _⟩ => ⟨S8x640, .f32⟩
  | .local _ .vmem, ⟨4, _⟩ => ⟨S8x640x128, .fp8e5m2⟩
  | .local _ .vmem, ⟨5, _⟩ => ⟨S8x640x128, .fp8e5m2⟩
  | .local _ .vmem, ⟨6, _⟩ => ⟨S8x640, .f32⟩
  | .local _ .vmem, ⟨7, _⟩ => ⟨S8x640, .f32⟩
  | .local _ .smem, ⟨0, _⟩ => ⟨S256, .i32⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def k0_off1 (i : grid0.Coords) (c0_i32_1 : BitVec 32) : Fin 1 → Nat :=
  let arg0 : BitVec 32 := BitVec.ofNat 32 (i 0).val
  let c8_i32 : BitVec 32 := 8#32
  let v4 : BitVec 32 := Scalar.muli arg0 c8_i32
  let v5 : BitVec 32 := Scalar.addi v4 c0_i32_1
  let v6 : Index := Scalar.indexCast v5
  ![v6.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x640x128 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x128 : Shape := ⟨2, ![256, 128]⟩
abbrev S256 : Shape := ⟨1, ![256]⟩
abbrev S256x640 : Shape := ⟨2, ![256, 640]⟩
abbrev S253 : Shape := ⟨1, ![253]⟩
abbrev S640 : Shape := ⟨1, ![640]⟩
abbrev S1x640 : Shape := ⟨2, ![1, 640]⟩
abbrev S256x1 : Shape := ⟨2, ![256, 1]⟩
abbrev S256x640x1 : Shape := ⟨3, ![256, 640, 1]⟩
abbrev S256x1x128 : Shape := ⟨3, ![256, 1, 128]⟩
abbrev S_ : Shape := ⟨0, ![]⟩
abbrev S256x640x128 : Shape := ⟨3, ![256, 640, 128]⟩
abbrev S1x1x253 : Shape := ⟨3, ![1, 1, 253]⟩
abbrev S256x640x253 : Shape := ⟨3, ![256, 640, 253]⟩

abbrev nBuf : Space → Nat
  | .hbm => 72
  | .vmem => 2
  | .smem => 0
  | _ => 0

abbrev bufTy : (tb : Table) → Fin (tcTables nBuf tb) → BufTy
  | .hbm, ⟨0, _⟩ => ⟨S256x128, .bf16⟩
  | .hbm, ⟨1, _⟩ => ⟨S256, .i32⟩
  | .hbm, ⟨2, _⟩ => ⟨S256x640, .f32⟩
  | .hbm, ⟨3, _⟩ => ⟨S253, .f32⟩
  | .hbm, ⟨4, _⟩ => ⟨S640, .i32⟩
  | .hbm, ⟨5, _⟩ => ⟨S1x640, .i32⟩
  | .hbm, ⟨6, _⟩ => ⟨S256x1, .i32⟩
  | .hbm, ⟨7, _⟩ => ⟨S256x640, .i32⟩
  | .hbm, ⟨8, _⟩ => ⟨S256x640, .i32⟩
  | .hbm, ⟨9, _⟩ => ⟨S256x640, .i1⟩
  | .hbm, ⟨10, _⟩ => ⟨S256x640x1, .i1⟩
  | .hbm, ⟨11, _⟩ => ⟨S256x128, .f32⟩
  | .hbm, ⟨12, _⟩ => ⟨S256, .f32⟩
  | .hbm, ⟨13, _⟩ => ⟨S256x1, .f32⟩
  | .hbm, ⟨14, _⟩ => ⟨S256x128, .f32⟩
  | .hbm, ⟨15, _⟩ => ⟨S256x128, .f32⟩
  | .hbm, ⟨16, _⟩ => ⟨S256x1x128, .f32⟩
  | .hbm, ⟨17, _⟩ => ⟨S_, .f32⟩
  | .hbm, ⟨18, _⟩ => ⟨S_, .f32⟩
  | .hbm, ⟨19, _⟩ => ⟨S256x640x128, .i1⟩
  | .hbm, ⟨20, _⟩ => ⟨S256x640x128, .f32⟩
  | .hbm, ⟨21, _⟩ => ⟨S256x640x128, .f32⟩
  | .hbm, ⟨22, _⟩ => ⟨S256x640x128, .f32⟩
  | .hbm, ⟨23, _⟩ => ⟨S256x640x1, .f32⟩
  | .hbm, ⟨24, _⟩ => ⟨S256x640x128, .f32⟩
  | .hbm, ⟨25, _⟩ => ⟨S256x640x128, .f32⟩
  | .hbm, ⟨26, _⟩ => ⟨S256x640x128, .f32⟩
  | .hbm, ⟨27, _⟩ => ⟨S_, .f32⟩
  | .hbm, ⟨28, _⟩ => ⟨S256x640, .f32⟩
  | .hbm, ⟨29, _⟩ => ⟨S_, .f32⟩
  | .hbm, ⟨30, _⟩ => ⟨S256x640, .f32⟩
  | .hbm, ⟨31, _⟩ => ⟨S256x640, .f32⟩
  | .hbm, ⟨32, _⟩ => ⟨S_, .f32⟩
  | .hbm, ⟨33, _⟩ => ⟨S256x640, .f32⟩
  | .hbm, ⟨34, _⟩ => ⟨S256x640, .i1⟩
  | .hbm, ⟨35, _⟩ => ⟨S_, .f32⟩
  | .hbm, ⟨36, _⟩ => ⟨S_, .f32⟩
  | .hbm, ⟨37, _⟩ => ⟨S256x640, .f32⟩
  | .hbm, ⟨38, _⟩ => ⟨S256x640, .f32⟩
  | .hbm, ⟨39, _⟩ => ⟨S256x640x1, .f32⟩
  | .hbm, ⟨40, _⟩ => ⟨S1x1x253, .f32⟩
  | .hbm, ⟨41, _⟩ => ⟨S256x640x253, .f32⟩
  | .hbm, ⟨42, _⟩ => ⟨S256x640x253, .f32⟩
  | .hbm, ⟨43, _⟩ => ⟨S256x640x253, .i1⟩
  | .hbm, ⟨44, _⟩ => ⟨S_, .f32⟩
  | .hbm, ⟨45, _⟩ => ⟨S256x640x253, .f32⟩
  | .hbm, ⟨46, _⟩ => ⟨S256x640x253, .f32⟩
  | .hbm, ⟨47, _⟩ => ⟨S256x640x253, .f32⟩
  | .hbm, ⟨48, _⟩ => ⟨S_, .f32⟩
  | .hbm, ⟨49, _⟩ => ⟨S256x640, .f32⟩
  | .hbm, ⟨50, _⟩ => ⟨S_, .f32⟩
  | .hbm, ⟨51, _⟩ => ⟨S256x640, .f32⟩
  | .hbm, ⟨52, _⟩ => ⟨S256x640, .i1⟩
  | .hbm, ⟨53, _⟩ => ⟨S_, .f32⟩
  | .hbm, ⟨54, _⟩ => ⟨S_, .f32⟩
  | .hbm, ⟨55, _⟩ => ⟨S256x640, .f32⟩
  | .hbm, ⟨56, _⟩ => ⟨S256x640, .f32⟩
  | .hbm, ⟨57, _⟩ => ⟨S_, .f32⟩
  | .hbm, ⟨58, _⟩ => ⟨S256x640, .f32⟩
  | .hbm, ⟨59, _⟩ => ⟨S256x640, .f32⟩
  | .hbm, ⟨60, _⟩ => ⟨S256x640x1, .f32⟩
  | .hbm, ⟨61, _⟩ => ⟨S256x640x128, .f32⟩
  | .hbm, ⟨62, _⟩ => ⟨S256x640x128, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S256x640x128, .f32⟩
  | .hbm, ⟨67, _⟩ => ⟨S256x640x128, .f32⟩
  | .hbm, ⟨68, _⟩ => ⟨S_, .f32⟩
  | .hbm, ⟨69, _⟩ => ⟨S256x640x128, .f32⟩
  | .hbm, ⟨70, _⟩ => ⟨S256x640x128, .f32⟩
  | .hbm, ⟨71, _⟩ => ⟨S256x640x128, .fp8e5m2⟩
  | .local _ .vmem, ⟨0, _⟩ => ⟨S256x640x128, .f32⟩
  | .local _ .vmem, ⟨1, _⟩ => ⟨S256x640x128, .fp8e5m2⟩
  | _, _ => ⟨S256x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_call2_v0 : Ref sig .tc := ⟨.hbm, 45, rfl⟩
abbrev main_call2_v1 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_call3_v0 : Ref sig .tc := ⟨.hbm, 54, rfl⟩
abbrev main_call3_v1 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_cst_11 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_v39 : Ref sig .tc := ⟨.hbm, 70, rfl⟩
abbrev main_v40 : Ref sig .tc := ⟨.hbm, 71, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S256x640x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x640x128 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Pow2.lean ====
module

public import Idealize.ShloMosaic.Lib.Pointwise

@[expose] public section

/-! Powers of two written as bits: the float whose bits are `t << 23`, and the search for the greatest such
    float not above a number. -/

noncomputable section

namespace Cert.Pow2
open Idealize.ShloMosaic

/-- The float of exponent field `t` and zero fraction. -/
def pw (t : Nat) : EReal := Ideal.ofBits .f32 (BitVec.ofNat 32 t <<< 23)

theorem pw_zero : pw 0 = 0 := by simp [pw, Ideal.ofBits, Ideal.ieee]

theorem pw_top : pw 255 = ⊤ := by simp [pw, Ideal.ofBits, Ideal.ieee]

/-- The fields of `t << 23`. -/
theorem fields (t : Fin 256) :
    ((BitVec.ofNat 32 t.val <<< 23).extractLsb' (8 + 23) 1 = 0#1) ∧
    ((BitVec.ofNat 32 t.val <<< 23).extractLsb' 23 8).toNat = t.val ∧
    ((BitVec.ofNat 32 t.val <<< 23).extractLsb' 0 23).toNat = 0 := by
  revert t; decide +kernel

/-- A normal exponent field `t` stands for `2 ^ (t - 127)`. -/
theorem pw_normal (t : Nat) (h1 : 1 ≤ t) (h2 : t ≤ 254) : pw t = (((2 : ℝ) ^ ((t : Int) - 127) : ℝ) : EReal) := by
  obtain ⟨f1, f2, f3⟩ := fields ⟨t, by omega⟩
  simp only at f1 f2 f3
  have e1 : ¬ t = 255 := by omega
  have e0 : ¬ t = 0 := by omega
  unfold pw
  simp only [Ideal.ofBits, Ideal.ieee, f1, f2, f3]
  norm_num [e1, e0]
  have : ((2 : ℝ) ^ 23) * (2 : ℝ) ^ ((t : Int) - 127 - 23) = 2 ^ ((t : Int) - 127) := by
    rw [show ((t : Int) - 127 - 23) = ((t : Int) - 127) - (23 : ℕ) by norm_num, zpow_sub₀ (by norm_num), zpow_natCast]
    field_simp
  exact_mod_cast this

theorem pw_mono {s t : Nat} (h : s ≤ t) (ht : t ≤ 255) : pw s ≤ pw t := by
  rcases Nat.eq_or_lt_of_le ht with rfl | ht'
  · rw [pw_top]; exact le_top
  rcases Nat.eq_zero_or_pos s with rfl | hs
  · rcases Nat.eq_zero_or_pos t with rfl | ht0
    · exact le_rfl
    · rw [pw_zero, pw_normal t ht0 (by omega)]; exact_mod_cast (by positivity)
  · rw [pw_normal s hs (by omega), pw_normal t (by omega) (by omega)]
    have : (2 : ℝ) ^ ((s : Int) - 127) ≤ 2 ^ ((t : Int) - 127) := zpow_le_zpow_right₀ (by norm_num) (by omega)
    exact_mod_cast this

/-- One step of the search: try to raise the field `t` by `bit`. -/
def step (x : EReal) (t bit : Nat) : Nat := if pw (t + bit) ≤ x then t + bit else t

/-- The word the kernel keeps for the field after one step. -/
theorem step_word (x : EReal) (t bit : Nat) :
    (if pw (t + bit) ≤ x then BitVec.ofNat 32 (t + bit) else BitVec.ofNat 32 t) = BitVec.ofNat 32 (step x t bit) := by
  unfold step; split <;> rfl

/-- The state of the search when the bits below `2 * bit` are open. -/
def Inv (x : EReal) (t w : Nat) : Prop := t + w ≤ 256 ∧ pw t ≤ x ∧ ∀ u, t + w ≤ u → u ≤ 255 → x < pw u

theorem Inv.step {x : EReal} {t b : Nat} (hb : 1 ≤ b) (h : Inv x t (b + b)) : Inv x (step x t b) b := by
  obtain ⟨h1, h2, h3⟩ := h
  unfold Pow2.step
  split
  · next hc => exact ⟨by omega, hc, fun u hu hu' => h3 u (by omega) hu'⟩
  · next hc =>
    refine ⟨by omega, h2, fun u hu hu' => ?_⟩
    exact lt_of_lt_of_le (not_le.mp hc) (pw_mono hu hu')

/-- The exponent field the search finds. -/
def field (x : EReal) : Nat :=
  step x (step x (step x (step x (step x (step x (step x (step x 0 128) 64) 32) 16) 8) 4) 2) 1

theorem field_spec {x : EReal} (hx : 0 ≤ x) :
    field x ≤ 255 ∧ pw (field x) ≤ x ∧ ∀ u, field x < u → u ≤ 255 → x < pw u := by
  have h : Inv x 0 (128 + 128) := ⟨by norm_num, by rw [pw_zero]; exact hx, fun u hu hu' => by omega⟩
  have := ((((((((h.step (by norm_num)).step (b := 64) (by norm_num)).step (b := 32) (by norm_num)).step (b := 16) (by norm_num)).step
    (b := 8) (by norm_num)).step (b := 4) (by norm_num)).step (b := 2) (by norm_num)).step (b := 1) (by norm_num))
  exact ⟨by have := this.1; unfold field; omega, this.2.1, fun u hu hu' => this.2.2 u hu hu'⟩

/-- The field lies below any `u` whose float is above `x`. -/
theorem field_lt {x : EReal} (hx : 0 ≤ x) {u : Nat} (hu : x < pw u) (hu' : u ≤ 255) : field x < u := by
  by_contra h
  exact absurd (lt_of_lt_of_le hu (pw_mono (not_lt.mp h) (field_spec hx).1)) (not_lt.mpr (field_spec hx).2.1)

theorem le_field {x : EReal} (hx : 0 ≤ x) {u : Nat} (hu : pw u ≤ x) (hu' : u ≤ 255) : u ≤ field x := by
  by_contra h
  exact absurd ((field_spec hx).2.2 u (not_le.mp h) hu') (not_lt.mpr hu)

/-- The binary exponent of `x`, as a whole number: 0 for zero, subnormals and what is not finite. -/
def expo (x : EReal) : Int := if field x = 0 ∨ field x = 255 then 0 else (field x : Int) - 126

theorem expo_range {x : EReal} (hx : 0 ≤ x) : -125 ≤ expo x ∧ expo x ≤ 128 := by
  have := (field_spec hx).1
  unfold expo; split <;> omega

/-- The word the kernel computes from the field is the exponent's. -/
theorem expo_word {x : EReal} (hx : 0 ≤ x) :
    (if BitVec.ofNat 32 (field x) = 0#32 ∨ BitVec.ofNat 32 (field x) = 255#32 then 0#32
      else BitVec.ofNat 32 (field x) - 126#32) = BitVec.ofInt 32 (expo x) := by
  have key : ∀ t : Fin 256, (if BitVec.ofNat 32 t.val = 0#32 ∨ BitVec.ofNat 32 t.val = 255#32 then 0#32
      else BitVec.ofNat 32 t.val - 126#32) = BitVec.ofInt 32 (if t.val = 0 ∨ t.val = 255 then 0 else (t.val : Int) - 126) := by
    decide +kernel
  have h := (field_spec hx).1
  exact key ⟨field x, by omega⟩

/-- `2 ^ k` as the kernel writes it: the word `k + 127` shifted into the exponent field. -/
def P (w : BitVec 32) : EReal := Ideal.ofBits .f32 ((w + 127#32) <<< 23)

theorem P_ofInt (k : Int) (h1 : -126 ≤ k) (h2 : k ≤ 127) : P (BitVec.ofInt 32 k) = (((2 : ℝ) ^ k : ℝ) : EReal) := by
  have e : BitVec.ofInt 32 k + 127#32 = BitVec.ofNat 32 (k + 127).toNat := by
    have key : ∀ i : Fin 254, BitVec.ofInt 32 ((i.val : Int) - 126) + 127#32 = BitVec.ofNat 32 (i.val + 1) := by decide +kernel
    have h := key ⟨(k + 126).toNat, by omega⟩
    simp only at h
    rw [show (((k + 126).toNat : Nat) : Int) - 126 = k by omega] at h
    rw [h]; congr 1; omega
  have := pw_normal (k + 127).toNat (by omega) (by omega)
  unfold pw at this
  unfold P
  rw [e, this]
  congr 2; omega

end Cert.Pow2
-- ==== Proof.Quant.lean ====
module

public import proofs.«01_k».proof.Proof.Pow2

@[expose] public section

/-! The quantiser as formulas on numbers: the kernel's form and the reference's form of a row's scale and of a
    code, and their equality. -/

noncomputable section

namespace Cert.Quant
open Idealize.ShloMosaic Cert.Pow2

/-- `|x|` as the programs write it. -/
def av (x : EReal) : EReal := max x (-x)

theorem av_nonneg (x : EReal) : 0 ≤ av x := by
  unfold av
  rcases le_total 0 x with h | h
  · exact le_max_of_le_left h
  · exact le_max_of_le_right (EReal.neg_nonneg.mpr h)

theorem mul_max_nn {c : EReal} (h : 0 ≤ c) (x y : EReal) : c * max x y = max (c * x) (c * y) :=
  (show Monotone fun z => c * z from fun _ _ hxy => mul_le_mul_of_nonneg_left hxy h).map_max

theorem av_mul (p g : EReal) : av (p * g) = av p * av g := by
  unfold av
  rcases le_total 0 p with h | h
  · have hp : max p (-p) = p := max_eq_left (le_trans (by simpa using EReal.neg_le_neg_iff.mpr h) h)
    rw [hp, mul_max_nn h, mul_neg]
  · have h' : 0 ≤ -p := EReal.neg_nonneg.mpr h
    have hp : max p (-p) = -p := max_eq_right (le_trans h h')
    rw [hp, mul_max_nn h', neg_mul, neg_mul, mul_neg, neg_neg, max_comm]

/-- The greatest `|g d|` of a row. -/
def rowMax {n : Nat} (g : Fin n → EReal) : EReal := Finset.univ.fold max ⊥ fun d => av (g d)

theorem rowMax_nonneg {n : Nat} (g : Fin (n + 1) → EReal) : 0 ≤ rowMax g :=
  (Finset.le_fold_max _).mpr (Or.inr ⟨0, Finset.mem_univ _, av_nonneg _⟩)

/-- The greatest product is the product with the greatest. -/
theorem rowMax_mul {n : Nat} (p : EReal) (g : Fin (n + 1) → EReal) :
    rowMax (fun d => p * g d) = av p * rowMax g := by
  have hb : av p * ⊥ ≤ 0 := mul_nonpos_of_nonneg_of_nonpos (av_nonneg p) bot_le
  have h := Finset.fold_hom (op := max) (op' := max) (s := (Finset.univ : Finset (Fin (n + 1)))) (b := (⊥ : EReal))
    (f := fun d => av (g d)) (m := fun y => av p * y) (fun x y => mul_max_nn (av_nonneg p) x y)
  unfold rowMax
  rw [← h]
  simp only [← av_mul]
  apply le_antisymm
  · exact (Finset.fold_max_le _).mpr ⟨bot_le, fun d hd => (Finset.le_fold_max _).mpr (Or.inr ⟨d, hd, le_rfl⟩)⟩
  · exact (Finset.fold_max_le _).mpr
      ⟨(Finset.le_fold_max _).mpr (Or.inr ⟨0, Finset.mem_univ _, le_trans hb (av_nonneg _)⟩),
        fun d hd => (Finset.le_fold_max _).mpr (Or.inr ⟨d, hd, le_rfl⟩)⟩

/-- The reference's power of two: the least in its table that lies above `x`, and 1 for zero. -/
def refScale (x : EReal) : EReal :=
  if (if x < pw 1 then 0 else x) = 0 then 1
  else Finset.univ.fold min ⊤ fun k : Fin 253 =>
    if (if x < pw 1 then 0 else x) < pw (k.val + 2) then pw (k.val + 2) else pw 254

theorem pw_one_pos : 0 < pw 1 := by
  rw [pw_normal 1 (by norm_num) (by norm_num)]; exact_mod_cast (by positivity)

theorem expo_small {x : EReal} (h0 : 0 ≤ x) (h : x < pw 1) : expo x = 0 := by
  have : field x < 1 := field_lt h0 h (by norm_num)
  unfold expo; rw [if_pos (Or.inl (by omega))]

theorem expo_big {x : EReal} (h0 : 0 ≤ x) (h : pw 1 ≤ x) (h2 : x < pw 254) :
    expo x = (field x : Int) - 126 ∧ 1 ≤ field x ∧ field x ≤ 253 := by
  have a : field x < 254 := field_lt h0 h2 (by norm_num)
  have b : 1 ≤ field x := le_field h0 h (by norm_num)
  refine ⟨?_, b, by omega⟩
  unfold expo; rw [if_neg (by omega)]

/-- For `x < 2 ^ 127` the exponent is at most 127. -/
theorem expo_le {x : EReal} (h0 : 0 ≤ x) (h2 : x < pw 254) : expo x ≤ 127 := by
  rcases lt_or_ge x (pw 1) with h | h
  · rw [expo_small h0 h]; norm_num
  · have := expo_big h0 h h2; omega

/-- The kernel's scale is the reference's. -/
theorem scale_eq {x : EReal} (h0 : 0 ≤ x) (h2 : x < pw 254) : P (BitVec.ofInt 32 (expo x)) = refScale x := by
  unfold refScale
  rw [P_ofInt _ (by have := (expo_range h0).1; omega) (expo_le h0 h2)]
  rcases lt_or_ge x (pw 1) with h | h
  · rw [if_pos h, if_pos rfl, expo_small h0 h]; norm_num
  · obtain ⟨he, hf1, hf2⟩ := expo_big h0 h h2
    have hs := field_spec h0
    rw [if_neg (not_lt.mpr h), if_neg (ne_of_gt (lt_of_lt_of_le pw_one_pos h)), he]
    have hT : (((2 : ℝ) ^ ((field x : Int) - 126) : ℝ) : EReal) = pw (field x + 1) := by
      rw [pw_normal _ (by omega) (by omega)]; congr 2; push_cast; ring
    rw [hT]
    apply le_antisymm
    · refine (Finset.le_fold_min _).mpr ⟨le_top, fun k _ => ?_⟩
      split
      · next hk =>
        have : field x < k.val + 2 := field_lt h0 hk (by omega)
        exact pw_mono (by omega) (by omega)
      · exact pw_mono (by omega) (by norm_num)
    · refine (Finset.fold_min_le _).mpr (Or.inr ⟨⟨field x - 1, by omega⟩, Finset.mem_univ _, ?_⟩)
      have e : field x - 1 + 2 = field x + 1 := by omega
      simp only [e]
      rw [if_pos (hs.2.2 _ (by omega) (by omega))]

/-- The row's exponent of `gmax`, clipped so that `2 ^ -eg` is a normal float. -/
def egI (gmax : EReal) : Int := min 126 (max (-125) (expo gmax))

theorem egI_range (gmax : EReal) : -125 ≤ egI gmax ∧ egI gmax ≤ 126 := by unfold egI; omega

/-- The clip on words is the clip on whole numbers. -/
theorem eg_word {gmax : EReal} (h : 0 ≤ gmax) :
    IntOp.minsi 126#32 (IntOp.maxsi 4294967171#32 (BitVec.ofInt 32 (expo gmax))) = BitVec.ofInt 32 (egI gmax) := by
  have key : ∀ i : Fin 254, IntOp.minsi 126#32 (IntOp.maxsi 4294967171#32 (BitVec.ofInt 32 ((i.val : Int) - 125)))
      = BitVec.ofInt 32 (min 126 (max (-125) ((i.val : Int) - 125))) := by decide +kernel
  have hr := expo_range h
  have := key ⟨(expo gmax + 125).toNat, by omega⟩
  simp only at this
  rw [show (((expo gmax + 125).toNat : Nat) : Int) - 125 = expo gmax by omega] at this
  exact this

/-- Half of `d`, rounded down, on words. -/
theorem half_word (d : Int) (h1 : -252 ≤ d) (h2 : d ≤ 251) :
    IntOp.shrsi .vector (BitVec.ofInt 32 d) 1#32 = BitVec.ofInt 32 (d / 2) := by
  have key : ∀ i : Fin 504, IntOp.shrsi .vector (BitVec.ofInt 32 ((i.val : Int) - 252)) 1#32
      = BitVec.ofInt 32 (((i.val : Int) - 252) / 2) := by decide +kernel
  have := key ⟨(d + 252).toNat, by omega⟩
  simp only at this
  rw [show (((d + 252).toNat : Nat) : Int) - 252 = d by omega] at this
  exact this

/-- The kernel's scaled factors of a row: `p * 2 ^ half * 2 ^ rest` and `g * 2 ^ -eg`, by words. -/
def pScaled (p : EReal) (eg e : BitVec 32) : EReal :=
  p * P (IntOp.shrsi .vector (eg - e) 1#32) * P (eg - e - IntOp.shrsi .vector (eg - e) 1#32)

def gScaled (g : EReal) (eg : BitVec 32) : EReal := g * P (0#32 - eg)

/-- The product of the kernel's two factors is the reference's scaled product. -/
theorem scaled_eq (p g : EReal) (eg e : Int) (hg1 : -125 ≤ eg) (hg2 : eg ≤ 126) (he1 : -125 ≤ e) (he2 : e ≤ 127) :
    pScaled p (BitVec.ofInt 32 eg) (BitVec.ofInt 32 e) * gScaled g (BitVec.ofInt 32 eg)
      = p * g * Ideal.div 1 (P (BitVec.ofInt 32 e)) := by
  have ofs (a b : Int) : BitVec.ofInt 32 (a - b) = BitVec.ofInt 32 a - BitVec.ofInt 32 b := by
    rw [Int.sub_eq_add_neg, BitVec.ofInt_add, BitVec.ofInt_neg, BitVec.sub_eq_add_neg]
  have s1 : BitVec.ofInt 32 eg - BitVec.ofInt 32 e = BitVec.ofInt 32 (eg - e) := by rw [ofs]
  have s2 : BitVec.ofInt 32 (eg - e) - BitVec.ofInt 32 ((eg - e) / 2) = BitVec.ofInt 32 (eg - e - (eg - e) / 2) := by
    rw [← ofs]
  have s3 : 0#32 - BitVec.ofInt 32 eg = BitVec.ofInt 32 (-eg) := by rw [BitVec.ofInt_neg]; simp
  unfold pScaled gScaled
  rw [s1, half_word _ (by omega) (by omega), s2, s3, P_ofInt _ (by omega) (by omega), P_ofInt _ (by omega) (by omega),
    P_ofInt _ (by omega) (by omega), P_ofInt _ (by omega) (by omega)]
  have hne : (((2 : ℝ) ^ e : ℝ) : EReal) ≠ 0 := by
    have : (2 : ℝ) ^ e ≠ 0 := by positivity
    exact_mod_cast this
  have hinv : Ideal.div 1 (((2 : ℝ) ^ e : ℝ) : EReal) = (((2 : ℝ) ^ (-e) : ℝ) : EReal) := by
    unfold Ideal.div
    rw [if_neg hne, one_mul, zpow_neg, EReal.coe_inv]
  rw [hinv, mul_assoc p, mul_mul_mul_comm, ← EReal.coe_mul, ← EReal.coe_mul, ← zpow_add₀ (by norm_num), ← zpow_add₀ (by norm_num)]
  congr 3; omega

/-- `57344`, the format's greatest number, and its negative; the programs' `1 / 57344`; binary32's greatest number. -/
def hi : EReal := Ideal.ofBits .f32 1197473792#32
def lo : EReal := Ideal.ofBits .f32 3344957440#32
def rc : EReal := Ideal.ofBits .f32 932333861#32
def fmax : EReal := Ideal.ofBits .f32 2139095039#32

theorem rc_nonneg : 0 ≤ rc := by
  simp [rc, Ideal.ofBits, Ideal.ieee, -EReal.coe_mul]

/-- A row whose greatest product is a finite binary32 number has `x < 2 ^ 127`. -/
theorem in_range {a : EReal} (h0 : 0 ≤ a) (h : a ≤ fmax) : a * rc < pw 254 := by
  refine lt_of_le_of_lt (mul_le_mul_of_nonneg_right h rc_nonneg) ?_
  have h1 : fmax = ((((2 : ℝ) ^ 24 - 1) * 2 ^ 104 : ℝ) : EReal) := by
    simp [fmax, Ideal.ofBits, Ideal.ieee, -EReal.coe_mul]; norm_num
  have h2 : rc = (((9586981 : ℝ) * 2 ^ (-39 : Int) : ℝ) : EReal) := by
    simp [rc, Ideal.ofBits, Ideal.ieee, -EReal.coe_mul]
  rw [pw_normal 254 (by norm_num) (by norm_num), h1, h2, ← EReal.coe_mul, EReal.coe_lt_coe_iff]
  norm_num

end Cert.Quant
-- ==== Proof.Row.lean ====
module

public import proofs.«01_k».proof.Proof.Quant

@[expose] public section

/-! One row of the answer, in the kernel's form and in the reference's form, and the equality of the two. A row is
    given by its length `n`, its position `s`, the number `p` of the position and the numbers `g d` of the group. -/

noncomputable section

namespace Cert.Row
open Idealize.ShloMosaic Cert.Pow2 Cert.Quant

/-- Position `s` of a group of length `n` is counted. -/
def valid (n : BitVec 32) (s : Nat) : Prop := (BitVec.ofNat 32 s).slt n = true

instance (n : BitVec 32) (s : Nat) : Decidable (valid n s) := inferInstanceAs (Decidable (_ = _))

/-- A choice between two numbers on the comparison that the programs make is a choice on `valid`. -/
theorem select_valid (n : BitVec 32) (s : Nat) (x y : EReal) :
    Scalar.select (IntOp.cmpi .slt (BitVec.ofNat 32 s) n) x y = if valid n s then x else y := by
  unfold valid
  by_cases h : (BitVec.ofNat 32 s).slt n = true <;> simp [Scalar.select, IntOp.cmpi, h]

/-! ## The reference's row -/

/-- The product that is to be quantised. -/
def prod (n : BitVec 32) (s : Nat) (p : EReal) (g : Fin 128 → EReal) (d : Fin 128) : EReal :=
  p * (if valid n s then Ideal.div (g d) ((n.toInt : ℝ) : EReal) else 0)

/-- The row's greatest product. -/
def amax (n : BitVec 32) (s : Nat) (p : EReal) (g : Fin 128 → EReal) : EReal := rowMax (prod n s p g)

def scale (n : BitVec 32) (s : Nat) (p : EReal) (g : Fin 128 → EReal) : EReal := refScale (amax n s p g * rc)

def code (n : BitVec 32) (s : Nat) (p : EReal) (g : Fin 128 → EReal) (d : Fin 128) : EReal :=
  min hi (max lo (prod n s p g d * Ideal.div 1 (scale n s p g)))

/-! ## The kernel's row -/

/-- The kernel divides by the length, or by 1 where the length is smaller. -/
def kg (n : BitVec 32) (g : Fin 128 → EReal) (d : Fin 128) : EReal :=
  Ideal.div (g d) (((IntOp.maxsi n 1#32).toInt : ℝ) : EReal)

def kx (n : BitVec 32) (s : Nat) (p : EReal) (g : Fin 128 → EReal) : EReal :=
  (if valid n s then av p * rowMax (kg n g) else 0) * rc

def keg (n : BitVec 32) (g : Fin 128 → EReal) : BitVec 32 := BitVec.ofInt 32 (egI (rowMax (kg n g)))

def ke (n : BitVec 32) (s : Nat) (p : EReal) (g : Fin 128 → EReal) : BitVec 32 := BitVec.ofInt 32 (expo (kx n s p g))

def kscale (n : BitVec 32) (s : Nat) (p : EReal) (g : Fin 128 → EReal) : EReal := P (ke n s p g)

def kcode (n : BitVec 32) (s : Nat) (p : EReal) (g : Fin 128 → EReal) (d : Fin 128) : EReal :=
  min hi (max lo ((if valid n s then pScaled p (keg n g) (ke n s p g) else 0) * gScaled (kg n g d) (keg n g)))

/-! ## Equality -/

/-- A counted position has a length of at least 1. -/
theorem maxsi_of_valid {n : BitVec 32} {s : Nat} (hs : s < 640) (h : valid n s) : (IntOp.maxsi n 1#32).toInt = n.toInt := by
  unfold valid at h
  rw [BitVec.slt_iff_toInt_lt] at h
  have e : (BitVec.ofNat 32 s).toInt = s := by
    rw [BitVec.toInt_ofNat', Int.bmod_def]; omega
  rw [e] at h
  unfold IntOp.maxsi
  split
  · rfl
  · next hn =>
    rw [BitVec.slt_iff_toInt_lt] at hn
    have : (1#32).toInt = 1 := by decide
    omega

theorem prod_of_valid {n : BitVec 32} {s : Nat} (hs : s < 640) (h : valid n s) (p : EReal) (g : Fin 128 → EReal) :
    prod n s p g = fun d => p * kg n g d := by
  funext d; unfold prod kg; rw [if_pos h, maxsi_of_valid hs h]

theorem prod_of_not {n : BitVec 32} {s : Nat} (h : ¬ valid n s) (p : EReal) (g : Fin 128 → EReal) :
    prod n s p g = fun _ => 0 := by
  funext d; unfold prod; rw [if_neg h, mul_zero]

theorem rowMax_zero : rowMax (fun _ : Fin 128 => 0) = 0 := by
  have := rowMax_mul (n := 127) 0 (fun _ => 0)
  simp only [zero_mul] at this
  rw [this]; simp [av]

theorem amax_nonneg (n : BitVec 32) (s : Nat) (p : EReal) (g : Fin 128 → EReal) : 0 ≤ amax n s p g := rowMax_nonneg (n := 127) _

/-- The kernel's `x` is the reference's. -/
theorem kx_eq {n : BitVec 32} {s : Nat} (hs : s < 640) (p : EReal) (g : Fin 128 → EReal) : kx n s p g = amax n s p g * rc := by
  unfold kx amax
  split
  · next h => rw [prod_of_valid hs h, rowMax_mul (n := 127)]
  · next h => rw [prod_of_not h, rowMax_zero]

theorem kx_nonneg {n : BitVec 32} {s : Nat} (hs : s < 640) (p : EReal) (g : Fin 128 → EReal) : 0 ≤ kx n s p g := by
  rw [kx_eq hs]; exact mul_nonneg (amax_nonneg n s p g) rc_nonneg

/-- The scales agree where the row's products are finite binary32 numbers. -/
theorem kscale_eq {n : BitVec 32} {s : Nat} (hs : s < 640) (p : EReal) (g : Fin 128 → EReal) (h : amax n s p g ≤ fmax) :
    kscale n s p g = scale n s p g := by
  unfold kscale ke scale
  rw [scale_eq (kx_nonneg hs p g) (by rw [kx_eq hs]; exact in_range (amax_nonneg n s p g) h), kx_eq hs]

/-- The codes agree there too. -/
theorem kcode_eq {n : BitVec 32} {s : Nat} (hs : s < 640) (p : EReal) (g : Fin 128 → EReal) (h : amax n s p g ≤ fmax) (d : Fin 128) :
    kcode n s p g d = code n s p g d := by
  have hx : kx n s p g < pw 254 := by rw [kx_eq hs]; exact in_range (amax_nonneg n s p g) h
  unfold kcode code
  rw [← kscale_eq hs p g h]
  unfold kscale
  by_cases hv : valid n s
  · rw [if_pos hv, prod_of_valid hs hv]
    have hr := egI_range (rowMax (kg n g))
    rw [show keg n g = BitVec.ofInt 32 (egI (rowMax (kg n g))) from rfl, show ke n s p g = BitVec.ofInt 32 (expo (kx n s p g)) from rfl,
      scaled_eq _ _ _ _ hr.1 hr.2 (expo_range (kx_nonneg hs p g)).1 (expo_le (kx_nonneg hs p g) hx)]
  · rw [if_neg hv, prod_of_not hv, zero_mul, zero_mul]

end Cert.Row
-- ==== Proof.KernelRow.lean ====
module

public import proofs.«01_k».proof.Proof.Row
public import proofs.«01_k».proof.Proof.Gen.KernelIdeal.Value

@[expose] public section

set_option maxRecDepth 16384

/-! The kernel body's vector values at an index: each is the formula of `Row` at the row's length and numbers. -/

noncomputable section

namespace Cert.KernelIdeal.RowValue
open Cert.KernelIdeal Cert.KernelIdeal.Gen Idealize.ShloMosaic Idealize.ShloMosaic.TcCoe Idealize.SL.Sem
open Cert.Pow2 Cert.Quant Cert.Row

/-! ## The search for the exponent field, on words -/

/-- One step. -/
def wstep (x : EReal) (w bit : BitVec 32) : BitVec 32 :=
  Scalar.select (Ideal.cmp .oge x (Ideal.ofBits .f32 (IntOp.shli .vector (IntOp.addi w bit) 23#32))) (IntOp.addi w bit) w

theorem select_ofBool {α : Type} (b : Bool) (x y : α) : Scalar.select (BitVec.ofBool b) x y = if b then x else y := by
  cases b <;> rfl

theorem wstep_ofNat (x : EReal) (t b : Nat) : wstep x (BitVec.ofNat 32 t) (BitVec.ofNat 32 b) = BitVec.ofNat 32 (step x t b) := by
  have e : IntOp.addi (BitVec.ofNat 32 t) (BitVec.ofNat 32 b) = BitVec.ofNat 32 (t + b) := by
    unfold IntOp.addi; rw [BitVec.ofNat_add]
  have f : IntOp.shli .vector (BitVec.ofNat 32 (t + b)) 23#32 = BitVec.ofNat 32 (t + b) <<< 23 := by
    unfold IntOp.shli; rw [if_pos (by decide)]; rfl
  unfold wstep
  rw [e, f]
  unfold Ideal.cmp
  rw [select_ofBool]
  show (if decide (pw (t + b) ≤ x) = true then _ else _) = _
  simp only [decide_eq_true_eq]
  exact step_word x t b

/-- All eight steps. -/
def search (x : EReal) : BitVec 32 :=
  wstep x (wstep x (wstep x (wstep x (wstep x (wstep x (wstep x (wstep x 0#32 128#32) 64#32) 32#32) 16#32) 8#32) 4#32) 2#32) 1#32

/-- One step of the search on a vector, as the body writes it, and at an index. -/
def vstep {t : Shape} (x : FVec Ideal t .f32) (w : IVec t 32) (bit : BitVec 32) : IVec t 32 :=
  select (cmpf .oge x (bitcastToFloat .f32 (shli (w := 32) (addi w (broadcast t bit)) (broadcast t 23#32)))) (addi w (broadcast t bit)) w

theorem vstep_fold {t : Shape} (x : FVec Ideal t .f32) (w : IVec t 32) (bit : BitVec 32) :
    select (cmpf .oge x (bitcastToFloat .f32 (shli (w := 32) (addi w (broadcast t bit)) (broadcast t 23#32)))) (addi w (broadcast t bit)) w
      = vstep x w bit := rfl

theorem vstep_at {t : Shape} (x : FVec Ideal t .f32) (w : IVec t 32) (bit : BitVec 32) (i : t.Idx) :
    vstep x w bit i = wstep (x i) (w i) bit := rfl

theorem search_eq (x : EReal) : search x = BitVec.ofNat 32 (field x) := by
  unfold search field
  simp only [← wstep_ofNat]

/-- The exponent from the field, on words. -/
def eword (w : BitVec 32) : BitVec 32 :=
  Scalar.select (IntOp.ori (IntOp.cmpi .eq w 0#32) (IntOp.cmpi .eq w 255#32)) 0#32 (IntOp.subi w 126#32)

theorem eword_eq (w : BitVec 32) : eword w = if w = 0#32 ∨ w = 255#32 then 0#32 else w - 126#32 := by
  unfold eword IntOp.cmpi IntOp.ori IntOp.subi
  by_cases h0 : w = 0#32
  · subst h0; rfl
  by_cases h1 : w = 255#32
  · subst h1; rfl
  have b0 : (w == 0#32) = false := by simpa using h0
  have b1 : (w == 255#32) = false := by simpa using h1
  simp only [b0, b1, h0, h1]
  rfl

theorem eword_search {x : EReal} (hx : 0 ≤ x) : eword (search x) = BitVec.ofInt 32 (expo x) := by
  rw [eword_eq, search_eq, expo_word hx]

/-- `2 ^ w` on words. -/
theorem P_eq (w : BitVec 32) : Ideal.ofBits .f32 (IntOp.shli .vector (IntOp.addi w 127#32) 23#32) = P w := by
  unfold IntOp.shli; rw [if_pos (by decide)]; rfl

/-! ## The body's values -/

section
variable (v0 v41 : IVec S8x1 32) (c5 : BitVec 32) (v47 v55 v63 : Elt Ideal .i32) (x0 : Vec Ideal S8x128 .bf16)

/-- The lengths of the block's eight rows. -/
abbrev len : IVec S8x1 32 := k0_pay4 v0 v41 c5 v47 v55 v63
/-- The length of row `r`, and the row's numbers. -/
abbrev nn (r : Fin 8) : BitVec 32 := len v0 v41 c5 v47 v55 v63 (ix2 r (0 : Fin 1))
abbrev gg (r : Fin 8) : Fin 128 → EReal := fun d => x0 (ix2 r d)

theorem pay5_at (r : Fin 8) (d : Fin 128) :
    k0_pay5 v0 v41 c5 v47 v55 v63 x0 (ix2 r d) = kg (nn v0 v41 c5 v47 v55 v63 r) (gg x0 r) d := by
  pointwise [k0_pay5]
  rfl

theorem pay6_at (r : Fin 8) :
    k0_pay6 v0 v41 c5 v47 v55 v63 x0 (ix2 r (0 : Fin 1)) = rowMax (kg (nn v0 v41 c5 v47 v55 v63 r) (gg x0 r)) := by
  have hb : Ideal.ofBits .f32 4286578688#32 = ⊥ := by simp [Ideal.ofBits, Ideal.ieee]
  pointwise [k0_pay6]
  simp only [pay5_at]
  rw [hb]
  rfl

abbrev ww : IVec S8x1 32 :=
  k0_pay9 (k0_pay6 v0 v41 c5 v47 v55 v63 x0) (k0_pay7 v0 v41 c5 v47 v55 v63 x0) (k0_pay8 v0 v41 c5 v47 v55 v63 x0)

theorem pay9_at (r : Fin 8) :
    ww v0 v41 c5 v47 v55 v63 x0 (ix2 r (0 : Fin 1)) = search (rowMax (kg (nn v0 v41 c5 v47 v55 v63 r) (gg x0 r))) := by
  rw [← pay6_at]
  simp only [k0_pay9, k0_pay8, k0_pay7, vstep_fold, vstep_at]
  rfl

theorem pay10_at (r : Fin 8) :
    k0_pay10 (ww v0 v41 c5 v47 v55 v63 x0) (ix2 r (0 : Fin 1)) = keg (nn v0 v41 c5 v47 v55 v63 r) (gg x0 r) := by
  pointwise [k0_pay10]
  rw [pay9_at]
  show IntOp.minsi 126#32 (IntOp.maxsi 4294967171#32 (eword (search _))) = _
  rw [eword_search (rowMax_nonneg (n := 127) _), eg_word (rowMax_nonneg (n := 127) _)]
  rfl

theorem pay11_at (r : Fin 8) (d : Fin 128) :
    k0_pay11 (k0_pay5 v0 v41 c5 v47 v55 v63 x0) (ww v0 v41 c5 v47 v55 v63 x0) (ix2 r d)
      = gScaled (kg (nn v0 v41 c5 v47 v55 v63 r) (gg x0 r) d) (keg (nn v0 v41 c5 v47 v55 v63 r) (gg x0 r)) := by
  pointwise [k0_pay11]
  rw [pay10_at, pay5_at, P_eq]
  rfl

variable (x2 : Vec Ideal S8x640 .f32)

theorem pay13_at (r : Fin 8) (s : Fin 640) :
    k0_pay13 (len v0 v41 c5 v47 v55 v63) (k0_pay6 v0 v41 c5 v47 v55 v63 x0) x2 (ix2 r s)
      = kx (nn v0 v41 c5 v47 v55 v63 r) s.val (x2 (ix2 r s)) (gg x0 r) := by
  have hz : (0 : EReal) = 0 * rc := (zero_mul _).symm
  pointwise [k0_pay13, k0_pay12]
  rw [pay6_at, select_valid]
  unfold kx
  split
  · rfl
  · exact hz

/-- The field of each `x`. -/
abbrev ff : IVec S8x640 32 :=
  k0_pay16 (k0_pay13 (len v0 v41 c5 v47 v55 v63) (k0_pay6 v0 v41 c5 v47 v55 v63 x0) x2)
    (k0_pay14 (len v0 v41 c5 v47 v55 v63) (k0_pay6 v0 v41 c5 v47 v55 v63 x0) x2)
    (k0_pay15 (len v0 v41 c5 v47 v55 v63) (k0_pay6 v0 v41 c5 v47 v55 v63 x0) x2)

theorem pay16_at (r : Fin 8) (s : Fin 640) :
    ff v0 v41 c5 v47 v55 v63 x0 x2 (ix2 r s)
      = search (kx (nn v0 v41 c5 v47 v55 v63 r) s.val (x2 (ix2 r s)) (gg x0 r)) := by
  rw [← pay13_at]
  simp only [k0_pay16, k0_pay15, k0_pay14, vstep_fold, vstep_at]
  rfl

/-- The scales that the body stores. -/
theorem pay18_at (r : Fin 8) (s : Fin 640) :
    k0_pay18 (F := Ideal) (ff v0 v41 c5 v47 v55 v63 x0 x2) (ix2 r s)
      = kscale (nn v0 v41 c5 v47 v55 v63 r) s.val (x2 (ix2 r s)) (gg x0 r) := by
  pointwise [k0_pay18, k0_pay17]
  rw [pay16_at, P_eq]
  show P (eword (search _)) = _
  rw [eword_search (kx_nonneg s.isLt _ _)]
  rfl

/-- The positions' factors, transposed. -/
abbrev pp : FVec Ideal S640x8 .f32 :=
  k0_pay19 (k0_pay10 (ww v0 v41 c5 v47 v55 v63 x0)) x2 (k0_pay12 (len v0 v41 c5 v47 v55 v63)) (ff v0 v41 c5 v47 v55 v63 x0 x2)

theorem pay19_at (r : Fin 8) (s : Fin 640) :
    pp v0 v41 c5 v47 v55 v63 x0 x2 (ix2 s r)
      = if valid (nn v0 v41 c5 v47 v55 v63 r) s.val then
          pScaled (x2 (ix2 r s)) (keg (nn v0 v41 c5 v47 v55 v63 r) (gg x0 r))
            (ke (nn v0 v41 c5 v47 v55 v63 r) s.val (x2 (ix2 r s)) (gg x0 r)) else 0 := by
  pointwise [k0_pay19, k0_pay17, k0_pay12]
  rw [select_valid, pay10_at, pay16_at, P_eq, P_eq]
  have he : eword (search (kx (nn v0 v41 c5 v47 v55 v63 r) s.val (x2 (ix2 r s)) (gg x0 r)))
      = ke (nn v0 v41 c5 v47 v55 v63 r) s.val (x2 (ix2 r s)) (gg x0 r) := eword_search (kx_nonneg s.isLt _ _)
  rw [← he]
  rfl

/-- The groups' factors. -/
abbrev qq : FVec Ideal S8x128 .f32 := k0_pay11 (k0_pay5 v0 v41 c5 v47 v55 v63 x0) (ww v0 v41 c5 v47 v55 v63 x0)

/-- The clipped product of the factors of row `r` is the row's code. -/
theorem clip_at (r : Fin 8) (s : Fin 640) (d : Fin 128) :
    min (Ideal.ofBits .f32 1197473792#32) (max (Ideal.ofBits .f32 3344957440#32)
      (pp v0 v41 c5 v47 v55 v63 x0 x2 (ix2 s r) * qq v0 v41 c5 v47 v55 v63 x0 (ix2 r d)))
      = kcode (nn v0 v41 c5 v47 v55 v63 r) s.val (x2 (ix2 r s)) (gg x0 r) d := by
  rw [pay19_at, show qq v0 v41 c5 v47 v55 v63 x0 (ix2 r d) = _ from pay11_at v0 v41 c5 v47 v55 v63 x0 r d]
  rfl

/-! The eight stores of codes, one of each row. -/

theorem store0_at (s : Fin 640) (d : Fin 128) :
    k0_pay22 (k0_pay20 (k0_pay10 (ww v0 v41 c5 v47 v55 v63 x0)) (qq v0 v41 c5 v47 v55 v63 x0) x2
        (k0_pay12 (len v0 v41 c5 v47 v55 v63)) (ff v0 v41 c5 v47 v55 v63 x0 x2))
      (Scalar.ofBits (F := Ideal) .f32 0x47600000#32) (k0_pay21 (F := Ideal)) (ix3 (0 : Fin 1) s d)
      = kcode (nn v0 v41 c5 v47 v55 v63 0) s.val (x2 (ix2 0 s)) (gg x0 0) d := by
  rw [← clip_at]
  pointwise [k0_pay22, k0_pay20, k0_pay21]

theorem store1_at (s : Fin 640) (d : Fin 128) :
    k0_pay23 (qq v0 v41 c5 v47 v55 v63 x0) (pp v0 v41 c5 v47 v55 v63 x0 x2) (ix3 (0 : Fin 1) s d)
      = kcode (nn v0 v41 c5 v47 v55 v63 1) s.val (x2 (ix2 1 s)) (gg x0 1) d := by
  rw [← clip_at]
  pointwise [k0_pay23]

theorem store2_at (s : Fin 640) (d : Fin 128) :
    k0_pay24 (qq v0 v41 c5 v47 v55 v63 x0) (pp v0 v41 c5 v47 v55 v63 x0 x2) (ix3 (0 : Fin 1) s d)
      = kcode (nn v0 v41 c5 v47 v55 v63 2) s.val (x2 (ix2 2 s)) (gg x0 2) d := by
  rw [← clip_at]
  pointwise [k0_pay24]

theorem store3_at (s : Fin 640) (d : Fin 128) :
    k0_pay26 (k0_pay25 (qq v0 v41 c5 v47 v55 v63 x0) (pp v0 v41 c5 v47 v55 v63 x0 x2)) (ix3 (0 : Fin 1) s d)
      = kcode (nn v0 v41 c5 v47 v55 v63 3) s.val (x2 (ix2 3 s)) (gg x0 3) d := by
  rw [← clip_at]
  pointwise [k0_pay26, k0_pay25]

theorem store4_at (s : Fin 640) (d : Fin 128) :
    k0_pay27 (qq v0 v41 c5 v47 v55 v63 x0) (pp v0 v41 c5 v47 v55 v63 x0 x2) (ix3 (0 : Fin 1) s d)
      = kcode (nn v0 v41 c5 v47 v55 v63 4) s.val (x2 (ix2 4 s)) (gg x0 4) d := by
  rw [← clip_at]
  pointwise [k0_pay27]

theorem store5_at (s : Fin 640) (d : Fin 128) :
    k0_pay28 (qq v0 v41 c5 v47 v55 v63 x0) (pp v0 v41 c5 v47 v55 v63 x0 x2) (ix3 (0 : Fin 1) s d)
      = kcode (nn v0 v41 c5 v47 v55 v63 5) s.val (x2 (ix2 5 s)) (gg x0 5) d := by
  rw [← clip_at]
  pointwise [k0_pay28]

theorem store6_at (s : Fin 640) (d : Fin 128) :
    k0_pay1 (k0_pay29 (qq v0 v41 c5 v47 v55 v63 x0) (pp v0 v41 c5 v47 v55 v63 x0 x2)) (ix3 (0 : Fin 1) s d)
      = kcode (nn v0 v41 c5 v47 v55 v63 6) s.val (x2 (ix2 6 s)) (gg x0 6) d := by
  rw [← clip_at]
  pointwise [k0_pay1, k0_pay29]

theorem store7_at (s : Fin 640) (d : Fin 128) :
    k0_pay2 (qq v0 v41 c5 v47 v55 v63 x0) (pp v0 v41 c5 v47 v55 v63 x0 x2) (ix3 (0 : Fin 1) s d)
      = kcode (nn v0 v41 c5 v47 v55 v63 7) s.val (x2 (ix2 7 s)) (gg x0 7) d := by
  rw [← clip_at]
  pointwise [k0_pay2]

end

end Cert.KernelIdeal.RowValue
-- ==== Proof.KernelBlock.lean ====
module

public import proofs.«01_k».proof.Proof.KernelRow
public import Idealize.ShloMosaic.Lib.Pipeline.ValueKit

@[expose] public section

set_option maxRecDepth 16384

/-! What the two result arrays of the kernel hold after the run. -/

noncomputable section

namespace Cert.KernelIdeal.RowValue
open Cert.KernelIdeal Cert.KernelIdeal.Gen Idealize.ShloMosaic Idealize.ShloMosaic.TcCoe Idealize.SL.Sem
open Idealize.ShloMosaic.Pipeline (Dat)
open Cert.Pow2 Cert.Quant Cert.Row

/-- The lengths' vector built from the eight words that the body loads. -/
theorem len_at (a0 a1 a2 a3 a4 a5 a6 a7 : BitVec 32) (r : Fin 8) :
    k0_pay4 (F := Ideal) (iota .tc S8x1 32 [0] iota_S8x1_d0_w32) (k0_pay3 (F := Ideal) a0 a1 a2 a3 a4) 5#32 a5 a6 a7 (ix2 r (0 : Fin 1))
      = ![a0, a1, a2, a3, a4, a5, a6, a7] r := by
  pointwise [k0_pay4, k0_pay3]
  fin_cases r <;> rfl

/-! ## A block's results in terms of its eight lengths and its two blocks of numbers -/

section
variable (a0 a1 a2 a3 a4 a5 a6 a7 : BitVec 32) (x0 : Vec Ideal S8x128 .bf16) (x2 : Vec Ideal S8x640 .f32)

/-- The vector built of the first five lengths. -/
abbrev v0' : IVec S8x1 32 := iota .tc S8x1 32 [0] iota_S8x1_d0_w32
abbrev v41' : IVec S8x1 32 := k0_pay3 (F := Ideal) a0 a1 a2 a3 a4

theorem nn_at (r : Fin 8) : nn v0' (v41' a0 a1 a2 a3 a4) 5#32 a5 a6 a7 r = ![a0, a1, a2, a3, a4, a5, a6, a7] r :=
  len_at a0 a1 a2 a3 a4 a5 a6 a7 r

theorem scale_of (r : Fin 8) (s : Fin 640) :
    k0_pay18 (F := Ideal) (ff v0' (v41' a0 a1 a2 a3 a4) 5#32 a5 a6 a7 x0 x2) (ix2 r s)
      = kscale (![a0, a1, a2, a3, a4, a5, a6, a7] r) s.val (x2 (ix2 r s)) (fun d => x0 (ix2 r d)) := by
  rw [pay18_at, nn_at]

end

variable (m : (ℓ : Loc nD τ sig) → Buf (Elt Ideal) ℓ) (ρ : Dev nD → PrngReg)

/-! ## The blocks of the arguments at a grid point -/

/-- Row `r` of the block of point `t` is row `8 t + r` of the arrays. -/
def row (t : Fin cfg0.N) (r : Fin 8) : Fin 256 := ⟨t.val * 8 + r.val, by have := t.isLt; have : cfg0.N = 32 := N_0; omega⟩

theorem idx0 : ∀ t : Fin cfg0.N, win0_0.index t = ![t.val, 0] := (by decide +kernel : ∀ t : Fin grid0.N, win0_0.index t = ![t.val, 0])
theorem idx1 : ∀ t : Fin cfg0.N, win0_1.index t = ![0] := (by decide +kernel : ∀ t : Fin grid0.N, win0_1.index t = ![0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0, 0] := (by decide +kernel : ∀ t : Fin grid0.N, win0_3.index t = ![t.val, 0, 0])
theorem idx4 : ∀ t : Fin cfg0.N, win0_4.index t = ![t.val, 0] := (by decide +kernel : ∀ t : Fin grid0.N, win0_4.index t = ![t.val, 0])

theorem off_len : ∀ (t : Fin cfg0.N) (k : Fin 8), k0_off1 (grid0.coords t) (BitVec.ofNat 32 k.val) 0 = t.val * 8 + k.val :=
  (by decide +kernel : ∀ (t : Fin grid0.N) (k : Fin 8), k0_off1 (grid0.coords t) (BitVec.ofNat 32 k.val) 0 = t.val * 8 + k.val)

theorem grad_at (c : Dev nD) (t : Fin cfg0.N) (r : Fin 8) (d : Fin 128) :
    iblk m c 0 t (ix2 r d) = m ((c : Thread nD τ).loc main_arg0) (ix2 (row t r) d) := by
  blk_simp [iblk, V, idx0 t]
  refine congrArg _ (funext fun a => Fin.ext ?_)
  blk_simp [idx0 t]
  fin_cases a <;> simp [row]

theorem psw_at (c : Dev nD) (t : Fin cfg0.N) (r : Fin 8) (s : Fin 640) :
    iblk m c 2 t (ix2 r s) = m ((c : Thread nD τ).loc main_arg2) (ix2 (row t r) s) := by
  blk_simp [iblk, V, idx2 t]
  refine congrArg _ (funext fun a => Fin.ext ?_)
  blk_simp [idx2 t]
  fin_cases a <;> simp [row]

theorem len_ld (c : Dev nD) (t : Fin cfg0.N) (w : BitVec 32) (k : Fin 8) (hw : w = BitVec.ofNat 32 k.val) (inb) (x) :
    View.ld (iblk m c 1 t) (Rect.unit (k0_off1 (grid0.coords t) w) ![1] inb) x
      = m ((c : Thread nD τ).loc main_arg1) (ix1 (row t k)) := by
  subst hw
  rw [View.ld_unit_apply_of _ _ _ _ _ (ix1 (row t k)) ?_]
  · blk_simp [iblk, V, idx1 t]
    refine congrArg _ (funext fun a => Fin.ext ?_)
    blk_simp [idx1 t]
    fin_cases a; simp
  · intro a
    fin_cases a
    have hx : (x 0).val = 0 := by have := (x 0).isLt; simpa using this
    show (row t k).val = k0_off1 (grid0.coords t) (BitVec.ofNat 32 k.val) 0 + (x 0).val
    rw [off_len, hx]; rfl

theorem lens_vec (c : Dev nD) (t : Fin cfg0.N) (r : Fin 8) :
    (![m ((c : Thread nD τ).loc main_arg1) (ix1 (row t 0)), m ((c : Thread nD τ).loc main_arg1) (ix1 (row t 1)),
      m ((c : Thread nD τ).loc main_arg1) (ix1 (row t 2)), m ((c : Thread nD τ).loc main_arg1) (ix1 (row t 3)),
      m ((c : Thread nD τ).loc main_arg1) (ix1 (row t 4)), m ((c : Thread nD τ).loc main_arg1) (ix1 (row t 5)),
      m ((c : Thread nD τ).loc main_arg1) (ix1 (row t 6)), m ((c : Thread nD τ).loc main_arg1) (ix1 (row t 7))] : Fin 8 → BitVec 32) r
      = m ((c : Thread nD τ).loc main_arg1) (ix1 (row t r)) := by
  fin_cases r <;> rfl

/-! ## The result arrays -/

def kS (c : Dev nD) : Buf (Elt Ideal) ((c : Thread nD τ).loc main_v0_1) := fun i : S256x640.Idx =>
  kscale (m ((c : Thread nD τ).loc main_arg1) (ix1 (i 0))) (i 1).val (m ((c : Thread nD τ).loc main_arg2) (ix2 (i 0) (i 1)))
    (fun d => m ((c : Thread nD τ).loc main_arg0) (ix2 (i 0) d))

def kC (c : Dev nD) : Buf (Elt Ideal) ((c : Thread nD τ).loc main_v0_0) := fun i : S256x640x128.Idx =>
  kcode (m ((c : Thread nD τ).loc main_arg1) (ix1 (i 0))) (i 1).val (m ((c : Thread nD τ).loc main_arg2) (ix2 (i 0) (i 1)))
    (fun d => m ((c : Thread nD τ).loc main_arg0) (ix2 (i 0) d)) (i 2)

/-- The scales of a block. -/
theorem scales_at (c : Dev nD) (t : Fin cfg0.N) (r : Fin 8) (s : Fin 640) :
    (outsAt0 m c t).2 (ix2 r s) = kS m c (ix2 (row t r) s) := by
  unfold outsAt0
  dsimp only
  frame_out
  simp only [len_ld m c t 0#32 0 rfl, len_ld m c t 1#32 1 rfl, len_ld m c t 2#32 2 rfl, len_ld m c t 3#32 3 rfl,
    len_ld m c t 4#32 4 rfl, len_ld m c t 5#32 5 rfl, len_ld m c t 6#32 6 rfl, len_ld m c t 7#32 7 rfl]
  refine (scale_of _ _ _ _ _ _ _ _ _ _ r s).trans ?_
  rw [show (iblk m c 2 t : Vec Ideal S8x640 .f32) (ix2 r s) = _ from psw_at m c t r s,
    show (fun d => (iblk m c 0 t : Vec Ideal S8x128 .bf16) (ix2 r d)) = _ from funext (grad_at m c t r), lens_vec m c t r]
  rfl

theorem idx_eq (x : S1x640x128.Idx) (s : Fin 640) (d : Fin 128) (h0 : (x 0).val = 0) (h1 : (x 1).val = s.val)
    (h2 : (x 2).val = d.val) : x = ix3 (0 : Fin 1) s d := by
  funext a
  fin_cases a
  · exact Fin.ext h0
  · exact Fin.ext h1
  · exact Fin.ext h2

/-- A row's code in terms of the block's lengths and numbers is the array's. -/
theorem code_tie (c : Dev nD) (t : Fin cfg0.N) (r : Fin 8) (s : Fin 640) (d : Fin 128) :
    kcode (nn v0' (v41' (m ((c : Thread nD τ).loc main_arg1) (ix1 (row t 0))) (m ((c : Thread nD τ).loc main_arg1) (ix1 (row t 1)))
        (m ((c : Thread nD τ).loc main_arg1) (ix1 (row t 2))) (m ((c : Thread nD τ).loc main_arg1) (ix1 (row t 3)))
        (m ((c : Thread nD τ).loc main_arg1) (ix1 (row t 4)))) 5#32 (m ((c : Thread nD τ).loc main_arg1) (ix1 (row t 5)))
        (m ((c : Thread nD τ).loc main_arg1) (ix1 (row t 6))) (m ((c : Thread nD τ).loc main_arg1) (ix1 (row t 7))) r)
      s.val ((iblk m c 2 t : Vec Ideal S8x640 .f32) (ix2 r s)) (gg (iblk m c 0 t : Vec Ideal S8x128 .bf16) r) d
      = kC m c (ix3 (row t r) s d) := by
  rw [nn_at, show (iblk m c 2 t : Vec Ideal S8x640 .f32) (ix2 r s) = _ from psw_at m c t r s,
    show gg (iblk m c 0 t : Vec Ideal S8x128 .bf16) r = _ from funext (grad_at m c t r), lens_vec m c t r]
  rfl

/-- The codes of a block: the eight stores, one of each row, together. -/
theorem codes_at (c : Dev nD) (t : Fin cfg0.N) (r : Fin 8) (s : Fin 640) (d : Fin 128) :
    (outsAt0 m c t).1 (ix3 r s d) = kC m c (ix3 (row t r) s d) := by
  unfold outsAt0
  dsimp only
  frame_out
  simp only [len_ld m c t 0#32 0 rfl, len_ld m c t 1#32 1 rfl, len_ld m c t 2#32 2 rfl, len_ld m c t 3#32 3 rfl,
    len_ld m c t 4#32 4 rfl, len_ld m c t 5#32 5 rfl, len_ld m c t 6#32 6 rfl, len_ld m c t 7#32 7 rfl]
  canon_tiles x h
  · obtain rfl : r = 7 := Fin.ext (by simp at h0 x0_lt; show r.val = 7; omega)
    rw [idx_eq x s d (by have := (x 0).isLt; change _ < 1 at this; omega) (by simpa using h1.symm) (by simpa using h2.symm)]
    exact (store7_at _ _ _ _ _ _ _ _ s d).trans (code_tie m c t 7 s d)
  · obtain rfl : r = 6 := Fin.ext (by simp at h0 x0_lt; show r.val = 6; omega)
    rw [idx_eq x s d (by have := (x 0).isLt; change _ < 1 at this; omega) (by simpa using h1.symm) (by simpa using h2.symm)]
    exact (store6_at _ _ _ _ _ _ _ _ s d).trans (code_tie m c t 6 s d)
  · obtain rfl : r = 5 := Fin.ext (by simp at h0 x0_lt; show r.val = 5; omega)
    rw [idx_eq x s d (by have := (x 0).isLt; change _ < 1 at this; omega) (by simpa using h1.symm) (by simpa using h2.symm)]
    exact (store5_at _ _ _ _ _ _ _ _ s d).trans (code_tie m c t 5 s d)
  · obtain rfl : r = 4 := Fin.ext (by simp at h0 x0_lt; show r.val = 4; omega)
    rw [idx_eq x s d (by have := (x 0).isLt; change _ < 1 at this; omega) (by simpa using h1.symm) (by simpa using h2.symm)]
    exact (store4_at _ _ _ _ _ _ _ _ s d).trans (code_tie m c t 4 s d)
  · obtain rfl : r = 3 := Fin.ext (by simp at h0 x0_lt; show r.val = 3; omega)
    rw [idx_eq x s d (by have := (x 0).isLt; change _ < 1 at this; omega) (by simpa using h1.symm) (by simpa using h2.symm)]
    exact (store3_at _ _ _ _ _ _ _ _ s d).trans (code_tie m c t 3 s d)
  · obtain rfl : r = 2 := Fin.ext (by simp at h0 x0_lt; show r.val = 2; omega)
    rw [idx_eq x s d (by have := (x 0).isLt; change _ < 1 at this; omega) (by simpa using h1.symm) (by simpa using h2.symm)]
    exact (store2_at _ _ _ _ _ _ _ _ s d).trans (code_tie m c t 2 s d)
  · obtain rfl : r = 1 := Fin.ext (by simp at h0 x0_lt; show r.val = 1; omega)
    rw [idx_eq x s d (by have := (x 0).isLt; change _ < 1 at this; omega) (by simpa using h1.symm) (by simpa using h2.symm)]
    exact (store1_at _ _ _ _ _ _ _ _ s d).trans (code_tie m c t 1 s d)
  · obtain rfl : r = 0 := Fin.ext (by simp at h0 x0_lt; show r.val = 0; omega)
    rw [idx_eq x s d (by have := (x 0).isLt; change _ < 1 at this; omega) (by simpa using h1.symm) (by simpa using h2.symm)]
    exact (store0_at _ _ _ _ _ _ _ _ s d).trans (code_tie m c t 0 s d)

/-- The array of scales after the run. -/
theorem final_scales (c : Dev nD) : (dats m 0 c).arrAt 4 cfg0.N = kS m c := by
  refine (dats m 0 c).arrAt_eq_of_covers 4 _ (by decide +kernel) fun t hf y => ?_
  blk_simp
  rw [after0_4]
  have hy : (y : S8x640.Idx) = ix2 (y 0) (y 1) := by funext a; fin_cases a <;> rfl
  refine (congrArg (outsAt0 m c t).2 hy).trans ((scales_at m c t (y 0) (y 1)).trans (congrArg (kS m c) ?_))
  funext a
  refine Fin.ext ?_
  blk_simp [idx4 t]
  fin_cases a <;> simp [row]

/-- The array of codes after the run. -/
theorem final_codes (c : Dev nD) : (dats m 0 c).arrAt 3 cfg0.N = kC m c := by
  refine (dats m 0 c).arrAt_eq_of_covers 3 _ (by decide +kernel) fun t hf y => ?_
  blk_simp
  rw [after0_3]
  have hy : (y : S8x640x128.Idx) = ix3 (y 0) (y 1) (y 2) := by funext a; fin_cases a <;> rfl
  refine (congrArg (outsAt0 m c t).1 hy).trans ((codes_at m c t (y 0) (y 1) (y 2)).trans (congrArg (kC m c) ?_))
  funext a
  refine Fin.ext ?_
  blk_simp [idx3 t]
  fin_cases a <;> simp [row]

/-- The run: both result arrays, and the arguments unchanged. -/
theorem run : θ_run defs (onTc (τ := τ) (main (F := Ideal))) ⟨m, fun _ => 0, ρ⟩ fun r => ∀ c : Dev nD,
      r.2.mem ((c : Thread nD τ).loc main_v0_0) = kC m c
      ∧ r.2.mem ((c : Thread nD τ).loc main_v0_1) = kS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_codes m c), (h c).2.1.trans (final_scales m c), (h c).2.2⟩)
    (Value.run_blocks m ρ)

end Cert.KernelIdeal.RowValue
-- ==== Proof.RefValue.lean ====
module

public import proofs.«01_k».proof.Proof.Row
public import proofs.«01_k».proof.Proof.Gen.ReferenceIdeal.Value
public import Idealize.ShloMosaic.Lib.StableHlo.ReadAt
public import Idealize.ShloMosaic.Lib.Pointwise
public import Idealize.ShloMosaic.Lib.Pipeline.ValueKit

@[expose] public section

set_option maxRecDepth 16384

/-! What the two result arrays of the reference hold after its run. -/

noncomputable section

namespace Cert.ReferenceIdeal.RefValue

open Cert.ReferenceIdeal Cert.ReferenceIdeal.Gen Cert.Row Cert.Quant
open Idealize.ShloMosaic Idealize.ShloMosaic.TcCoe Idealize.ShloMosaic.StableHlo Idealize.SL.Sem
open Idealize.ShloMosaic.Pipeline (Dat)

/-! ## The host operations in four groups, each read at an index -/

/-- The gradient over the length, masked. -/
abbrev ops1 : List (HloOp τ sig (Elt Ideal)) := hostOps0 ++ hostOps0_1
/-- The products, their greatest and the number that the scale is found of. -/
abbrev ops2 : List (HloOp τ sig (Elt Ideal)) := hostOps0_2 ++ hostOps0_3
/-- The scale. -/
abbrev ops3 : List (HloOp τ sig (Elt Ideal)) := hostOps0_4 ++ hostOps0_5 ++ hostOps0_6 ++ hostOps0_7
/-- The scaled products, clipped. -/
abbrev ops4 : List (HloOp τ sig (Elt Ideal)) := hostOps0_8 ++ hostOps0_9

section
variable (W : Valuation τ sig (Elt Ideal))

theorem zero_const : (id (constant (F := Ideal) S_ FTy.f32 0#32) ix0 : EReal) = 0 := by
  show Ideal.ofBits .f32 0#32 = 0
  simp [Ideal.ofBits, Ideal.ieee]

theorem one_const : (id (constant (F := Ideal) S_ FTy.f32 1065353216#32) ix0 : EReal) = 1 := by
  show Ideal.ofBits .f32 1065353216#32 = 1
  exact (Cert.Pow2.pw_normal 127 (by norm_num) (by norm_num)).trans (by norm_num)

theorem masked_at (b : Fin 256) (s : Fin 640) (d : Fin 128) :
    (after ops1 W (main_v13 : DevRef τ sig) : Vec Ideal S256x640x128 .f32) (ix3 b s d)
      = if valid (W (main_arg1 : DevRef τ sig) (ix1 b)) s.val
        then Ideal.div (W (main_arg0 : DevRef τ sig) (ix2 b d)) (((W (main_arg1 : DevRef τ sig) (ix1 b)).toInt : ℝ) : EReal)
        else 0 := by
  unfold ops1
  after_reads_at
  refine (select_valid _ _ _ _).trans ?_
  rw [zero_const]
  rfl

/-- The reference's table holds the powers of two. -/
theorem table (k : Fin 253) : lit0 (S253.rowMajor (ix1 k)) = BitVec.ofNat 32 (k.val + 2) <<< 23 := by
  revert k; decide +kernel

theorem table_at (k : Fin 253) :
    (after ops1 W (main_cst : DevRef τ sig) : Vec Ideal S253 .f32) (ix1 k) = Cert.Pow2.pw (k.val + 2) := by
  unfold ops1
  after_reads_at
  rw [table]
  rfl

theorem prod_at (g : FVec Ideal S256x640x128 .f32) (p : FVec Ideal S256x640 .f32) (hg : W (main_v13 : DevRef τ sig) = g)
    (hp : W (main_arg2 : DevRef τ sig) = p) (b : Fin 256) (s : Fin 640) (d : Fin 128) :
    after ops2 W (main_v16 : DevRef τ sig) (ix3 b s d) = p (ix2 b s) * g (ix3 b s d) := by
  subst hg hp
  unfold ops2
  after_reads_at

theorem bot_bits : Ideal.ofBits FTy.f32 4286578688#32 = (⊥ : EReal) := by simp [Ideal.ofBits, Ideal.ieee]
theorem top_bits : Ideal.ofBits FTy.f32 2139095040#32 = (⊤ : EReal) := by simp [Ideal.ofBits, Ideal.ieee]

/-- The greatest absolute value along the last axis. -/
theorem reduce_at (A : FVec Ideal S256x640x128 .f32) (b : Fin 256) (s : Fin 640) :
    Host.reduce FloatOps.maximumf (Host.absf A) (constant S_ .f32 0xFF800000#32) reducesTo_S256x640x128_S256x640_d2 h_S_ (ix2 b s)
      = rowMax (fun d : Fin 128 => A (ix3 b s d)) := by
  pointwise []
  rw [bot_bits]
  rfl

/-- The greatest product over `7/8` of the greatest code, numbers below the least normal number made zero. -/
theorem flush_at (R : FVec Ideal S256x640 .f32) (b : Fin 256) (s : Fin 640) :
    select (cmpf .olt (mulf R (broadcastInDim S256x640 ![] bcast_S_S256x640 (constant S_ .f32 0x37924925#32)))
        (broadcastInDim S256x640 ![] bcast_S_S256x640 (constant S_ .f32 0x00800000#32)))
      (broadcastInDim S256x640 ![] bcast_S_S256x640 (id (constant S_ .f32 0x00000000#32)))
      (mulf R (broadcastInDim S256x640 ![] bcast_S_S256x640 (constant S_ .f32 0x37924925#32))) (ix2 b s)
      = (fun x : EReal => if x < Cert.Pow2.pw 1 then 0 else x) (R (ix2 b s) * rc) := by
  pointwise []
  rw [zero_const]
  rfl

theorem product_at (g : FVec Ideal S256x640x128 .f32) (p : FVec Ideal S256x640 .f32) (b : Fin 256) (s : Fin 640) (d : Fin 128) :
    mulf (broadcastInDim S256x640x128 ![0, 1, 2] bcast_S256x640x1_S256x640x128_0_1_2
      (broadcastInDim S256x640x1 ![0, 1] bcast_S256x640_S256x640x1_0_1 p)) g (ix3 b s d) = p (ix2 b s) * g (ix3 b s d) := by
  pointwise []

theorem flushed_at (g : FVec Ideal S256x640x128 .f32) (p : FVec Ideal S256x640 .f32) (hg : W (main_v13 : DevRef τ sig) = g)
    (hp : W (main_arg2 : DevRef τ sig) = p) (b : Fin 256) (s : Fin 640) :
    after ops2 W (main_v23 : DevRef τ sig) (ix2 b s)
      = (fun x : EReal => if x < Cert.Pow2.pw 1 then 0 else x)
        (rowMax (fun d : Fin 128 => p (ix2 b s) * g (ix3 b s d)) * rc) := by
  subst hg hp
  unfold ops2
  after_reads_simp
  simp -implicitDefEqProofs only [StableHlo.TRef.toBuf, StableHlo.TRef.ofBuf, cast_cast, cast_eq]
  clean_types
  refine (flush_at _ b s).trans ?_
  rw [reduce_at]
  have hf (d : Fin 128) := product_at (W (main_v13 : DevRef τ sig)) (W (main_arg2 : DevRef τ sig)) b s d
  exact congrArg (fun f : Fin 128 → EReal => (fun x : EReal => if x < Cert.Pow2.pw 1 then 0 else x) (rowMax f * rc)) (funext hf)

theorem scale_at (T : FVec Ideal S253 .f32) (x : FVec Ideal S256x640 .f32) (hT : W (main_cst : DevRef τ sig) = T)
    (hx : W (main_v23 : DevRef τ sig) = x) (b : Fin 256) (s : Fin 640) :
    after ops3 W (main_v33 : DevRef τ sig) (ix2 b s)
      = (fun x : EReal => if x = 0 then 1 else Finset.univ.fold min ⊤ fun k : Fin 253 =>
          if x < T (ix1 k) then T (ix1 k) else Cert.Pow2.pw 254) (x (ix2 b s)) := by
  subst hT hx
  unfold ops3
  after_reads_at
  rw [one_const, top_bits]
  rfl

theorem clipped_at (G : FVec Ideal S256x640x128 .f32) (S : FVec Ideal S256x640 .f32) (hG : W (main_v16 : DevRef τ sig) = G)
    (hS : W (main_v33 : DevRef τ sig) = S) (b : Fin 256) (s : Fin 640) (d : Fin 128) :
    after ops4 W (main_v39 : DevRef τ sig) (ix3 b s d)
      = min hi (max lo (G (ix3 b s d) * Ideal.div 1 (S (ix2 b s)))) := by
  subst hG hS
  unfold ops4
  after_reads_at
  rfl

theorem scale_kept : after ops4 W (main_v33 : DevRef τ sig) = W main_v33 := by
  unfold ops4
  after_reads_simp

theorem prod_kept : after ops3 W (main_v16 : DevRef τ sig) = W main_v16 := by
  unfold ops3
  after_reads_simp

theorem table_kept : after ops2 W (main_cst : DevRef τ sig) = W main_cst := by
  unfold ops2
  after_reads_simp

theorem arg2_kept : after ops1 W (main_arg2 : DevRef τ sig) = W main_arg2 := by
  unfold ops1
  after_reads_simp

theorem after_app (l₁ l₂ : List (HloOp τ sig (Elt Ideal))) : after (l₁ ++ l₂) W = after l₂ (after l₁ W) := by
  induction l₁ generalizing W with
  | nil => rfl
  | cons op l ih => exact ih _

/-! ## The groups one after the other -/

/-- The product that is quantised, after the first two groups. -/
theorem prod_full (b : Fin 256) (s : Fin 640) (d : Fin 128) :
    after ops2 (after ops1 W) (main_v16 : DevRef τ sig) (ix3 b s d)
      = prod (W (main_arg1 : DevRef τ sig) (ix1 b)) s.val (W (main_arg2 : DevRef τ sig) (ix2 b s))
        (fun d => W (main_arg0 : DevRef τ sig) (ix2 b d)) d := by
  refine (prod_at _ _ _ rfl (arg2_kept W) b s d).trans ?_
  unfold prod
  exact congrArg _ (masked_at W b s d)

/-- The scale, after three groups. -/
theorem scale_full (b : Fin 256) (s : Fin 640) :
    after ops3 (after ops2 (after ops1 W)) (main_v33 : DevRef τ sig) (ix2 b s)
      = scale (W (main_arg1 : DevRef τ sig) (ix1 b)) s.val (W (main_arg2 : DevRef τ sig) (ix2 b s))
        (fun d => W (main_arg0 : DevRef τ sig) (ix2 b d)) := by
  refine (scale_at _ _ _ (table_kept _) rfl b s).trans ?_
  have hx := flushed_at (after ops1 W) _ _ rfl (arg2_kept W) b s
  have hT : (fun k : Fin 253 => (after ops1 W (main_cst : DevRef τ sig) (ix1 k) : EReal)) = fun k => Cert.Pow2.pw (k.val + 2) :=
    funext (table_at W)
  have hg : (fun d : Fin 128 => (HMul.hMul (α := EReal) (β := EReal) (W (main_arg2 : DevRef τ sig) (ix2 b s)) (after ops1 W (main_v13 : DevRef τ sig) (ix3 b s d))))
      = prod (W (main_arg1 : DevRef τ sig) (ix1 b)) s.val (W (main_arg2 : DevRef τ sig) (ix2 b s))
        (fun d => W (main_arg0 : DevRef τ sig) (ix2 b d)) := by
    funext d
    exact congrArg _ (masked_at W b s d)
  unfold scale refScale amax
  rw [← hg]
  dsimp only at hx ⊢
  have key : ∀ (x y : EReal) (T U : Fin 253 → EReal), x = y → T = U →
      (if x = 0 then (1 : EReal) else Finset.univ.fold min ⊤ fun k => if x < T k then T k else Cert.Pow2.pw 254)
        = if y = 0 then (1 : EReal) else Finset.univ.fold min ⊤ fun k => if y < U k then U k else Cert.Pow2.pw 254 := by
    rintro x _ T _ rfl rfl; rfl
  exact key _ _ _ _ hx hT

/-- The code, after all four groups. -/
theorem code_full (b : Fin 256) (s : Fin 640) (d : Fin 128) :
    after ops4 (after ops3 (after ops2 (after ops1 W))) (main_v39 : DevRef τ sig) (ix3 b s d)
      = code (W (main_arg1 : DevRef τ sig) (ix1 b)) s.val (W (main_arg2 : DevRef τ sig) (ix2 b s))
        (fun d => W (main_arg0 : DevRef τ sig) (ix2 b d)) d := by
  refine (clipped_at _ _ _ (prod_kept _) rfl b s d).trans ?_
  have key : ∀ x y S T : EReal, x = y → S = T → min hi (max lo (x * Ideal.div 1 S)) = min hi (max lo (y * Ideal.div 1 T)) := by
    rintro x _ S _ rfl rfl; rfl
  exact key _ _ _ _ (prod_full W b s d) (scale_full W b s)

end

/-! ## The reference's results -/

variable (m : (ℓ : Loc nD τ sig) → Buf (Elt Ideal) ℓ) (ρ : Dev nD → PrngReg)

/-- The scales, as an array of the arguments. -/
def rS (c : Dev nD) : Buf (Elt Ideal) ((c : Thread nD τ).loc main_v33) := fun i =>
  scale (m ((c : Thread nD τ).loc main_arg1) (ix1 (i 0))) (i 1).val (m ((c : Thread nD τ).loc main_arg2) (ix2 (i 0) (i 1)))
    (fun d => m ((c : Thread nD τ).loc main_arg0) (ix2 (i 0) d))

/-- The codes, as an array of the arguments. -/
def rC (c : Dev nD) : Buf (Elt Ideal) ((c : Thread nD τ).loc main_v40) := fun i =>
  code (m ((c : Thread nD τ).loc main_arg1) (ix1 (i 0))) (i 1).val (m ((c : Thread nD τ).loc main_arg2) (ix2 (i 0) (i 1)))
    (fun d => m ((c : Thread nD τ).loc main_arg0) (ix2 (i 0) d)) (i 2)

theorem V_eq (c : Dev nD) (b : Ref sig .tc) :
    V m c b = after ops4 (after ops3 (after ops2 (after ops1 fun b => m (c, b)))) (b : DevRef τ sig) := by
  unfold V
  rw [← after_app, ← after_app, ← after_app]
  rfl

theorem V_scales (c : Dev nD) : V m c main_v33 = rS m c := by
  rw [V_eq, scale_kept]
  funext i
  have hi : (i : S256x640.Idx) = ix2 (i 0) (i 1) := by funext a; fin_cases a <;> rfl
  refine (congrArg _ hi).trans ((scale_full _ (i 0) (i 1)).trans ?_)
  rfl

theorem V_codes (c : Dev nD) : V m c main_v39 = rC m c := by
  rw [V_eq]
  funext i
  have hi : (i : S256x640x128.Idx) = ix3 (i 0) (i 1) (i 2) := by funext a; fin_cases a <;> rfl
  exact (congrArg _ hi).trans (code_full _ (i 0) (i 1) (i 2))

theorem idx0 (t : Fin cfg0.N) : win0_0.index t = ![0, 0, 0] := (by decide +kernel : ∀ t : Fin grid0.N, win0_0.index t = ![0, 0, 0]) t
theorem idx1 (t : Fin cfg0.N) : win0_1.index t = ![0, 0, 0] := (by decide +kernel : ∀ t : Fin grid0.N, win0_1.index t = ![0, 0, 0]) t

/-- The kernel of the reference only casts: its array is the clipped array. -/
theorem final_codes (c : Dev nD) : (dats m 0 c).arrAt 1 cfg0.N = rC m c := by
  refine (dats m 0 c).arrAt_eq_of_covers 1 _ (by decide +kernel) fun t hf y => ?_
  blk_simp
  rw [after0_1]
  unfold out0_1
  refine (Value.canon1_eq _ y).trans ?_
  show V m c main_v39 ((win0_0.blk t).view.emb (r0_0.idx (Value.ix1_0 y))) = _
  rw [V_codes]
  refine congrArg (rC m c) (funext fun a => Fin.ext ?_)
  blk_simp [idx0 t, idx1 t]
  fin_cases a <;> simp [r0_0]

/-- The reference's run: both results, and the arguments unchanged. -/
theorem run : θ_run defs (onTc (τ := τ) (main (F := Ideal))) ⟨m, fun _ => 0, ρ⟩ fun r => ∀ c : Dev nD,
      r.2.mem ((c : Thread nD τ).loc main_v40) = rC m c
      ∧ r.2.mem ((c : Thread nD τ).loc main_v33) = rS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post1 m r h c).trans (final_codes m c),
      ((h c).2 main_v33 (Pipeline.mem_restRefs_of main_v33 (by decide) (by decide))).trans (V_scales m c),
      Value.kept_main_arg0 m r h c, Value.kept_main_arg1 m r h c, Value.kept_main_arg2 m r h c⟩)
    (run_main m ρ)

end Cert.ReferenceIdeal.RefValue
-- ==== Proof.InRange.lean ====
module

public import proofs.«01_k».proof.Proof.Row
public import proofs.«01_k».proof.Proof.Gen.Pre_in_range
public import Idealize.ShloMosaic.Lib.Pointwise

@[expose] public section

set_option maxRecDepth 16384

/-! What the precondition says of one row: its greatest product is at most the greatest float. -/

noncomputable section

namespace Cert.Pre_in_range.Row

open Cert.Pre_in_range Cert.Pre_in_range.Gen Cert.Row Cert.Quant
open Idealize.ShloMosaic

theorem zero_const : (id (constant (F := Ideal) S_ FTy.f32 0#32) ix0 : EReal) = 0 := by
  show Ideal.ofBits .f32 0#32 = 0
  simp [Ideal.ofBits, Ideal.ieee]

theorem reduce_at (A : FVec Ideal S256x640x128 .f32) (b : Fin 256) (s : Fin 640) :
    Host.reduce FloatOps.maximumf (Host.absf A) (constant S_ .f32 0xFF800000#32) reducesTo_S256x640x128_S256x640_d2 h_S_ (ix2 b s)
      = rowMax (fun d : Fin 128 => A (ix3 b s d)) := by
  pointwise []
  rw [show Ideal.ofBits FTy.f32 4286578688#32 = (⊥ : EReal) by simp [Ideal.ofBits, Ideal.ieee]]
  rfl

variable (g : FVec Ideal S256x128 .bf16) (n : IVec S256 32) (p : FVec Ideal S256x640 .f32)

/-- The array of products. -/
def products : FVec Ideal S256x640x128 .f32 :=
  mulf (broadcastInDim S256x640x128 ![0, 1, 2] bcast_S256x640x1_S256x640x128_0_1_2 (broadcastInDim S256x640x1 ![0, 1] bcast_S256x640_S256x640x1_0_1 p))
    (fn_where (F := Ideal) (broadcastInDim S256x640x1 ![0, 1] bcast_S256x640_S256x640x1_0_1
        (cmpi .slt (broadcastInDim S256x640 ![0, 1] bcast_S1x640_S256x640_0_1 (broadcastInDim S1x640 ![1] bcast_S640_S1x640_1 (iotaInDim S640 32 0)))
          (broadcastInDim S256x640 ![0, 1] bcast_S256x1_S256x640_0_1 (broadcastInDim S256x1 ![0] bcast_S256_S256x1_0 n))))
      (broadcastInDim S256x1x128 ![0, 2] bcast_S256x128_S256x1x128_0_2 (Host.divf (extf .f32 g bitsLt_bf16_f32)
        (broadcastInDim S256x128 ![0, 1] bcast_S256x1_S256x128_0_1 (broadcastInDim S256x1 ![0] bcast_S256_S256x1_0 (sitofp .f32 n)))))
      (constant S_ .f32 0x00000000#32))

theorem products_at (b : Fin 256) (s : Fin 640) (d : Fin 128) :
    products g n p (ix3 b s d) = prod (n (ix1 b)) s.val (p (ix2 b s)) (fun d => g (ix2 b d)) d := by
  pointwise [products, fn_where]
  rw [select_valid, zero_const]
  rfl

theorem fn_eq : fn (F := Ideal) g n p = cmpf .ole (Host.reduce FloatOps.maximumf (Host.absf (products g n p)) (constant S_ .f32 0xFF800000#32) reducesTo_S256x640x128_S256x640_d2 h_S_)
    (broadcastInDim S256x640 ![] bcast_S_S256x640 (constant (F := Ideal) S_ .f32 0x7F7FFFFF#32)) := by
  unfold fn products
  rfl

theorem ole_at (A B : FVec Ideal S256x640 .f32) (i : S256x640.Idx) :
    cmpf .ole A B i = BitVec.ofBool (decide ((A i : EReal) ≤ B i)) := rfl

theorem const_at (i : S256x640.Idx) :
    (broadcastInDim S256x640 ![] bcast_S_S256x640 (constant (F := Ideal) S_ .f32 0x7F7FFFFF#32) i : EReal) = fmax := rfl

/-- The precondition at one row. -/
theorem amax_le (h : fn (F := Ideal) g n p = fun _ => 1#1) (b : Fin 256) (s : Fin 640) :
    amax (n (ix1 b)) s.val (p (ix2 b s)) (fun d => g (ix2 b d)) ≤ fmax := by
  have h3 := congrFun h (ix2 b s)
  rw [fn_eq, ole_at, reduce_at, const_at] at h3
  unfold amax
  have h4 : (fun d : Fin 128 => (products g n p (ix3 b s d) : EReal)) = prod (n (ix1 b)) s.val (p (ix2 b s)) (fun d => g (ix2 b d)) :=
    funext (products_at g n p b s)
  rw [h4] at h3
  by_contra hc
  rw [decide_eq_false hc] at h3
  exact absurd h3 (by decide)

end Cert.Pre_in_range.Row
-- ==== Proof.lean ====
module

public import proofs.«01_k».proof.Proof.KernelBlock
public import proofs.«01_k».proof.Proof.RefValue
public import proofs.«01_k».proof.Proof.InRange
public import proofs.«01_k».proof.Proof.Gen.Kernel.Frame
public import proofs.«01_k».proof.Defs
public import Idealize.ShloMosaic.Adequacy
public import Idealize.ShloMosaic.Init

@[expose] public section

noncomputable section

namespace Cert.Proof

open Idealize.ShloMosaic Idealize.ShloMosaic.TcCoe Idealize.SL.Sem
open Cert.KernelIdeal.RowValue (kC kS)
open Cert.ReferenceIdeal.RefValue (rC rS)

/-- The two programs compute the same arrays. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_in_range m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    rC m' c = kC m c ∧ rS m' c = kS m c := by
  have hr (b : Fin 256) (s : Fin 640) := Cert.Pre_in_range.Row.amax_le _ _ _ (hpre c) b s
  constructor
  · funext i
    unfold rC kC
    rw [h0, h1, h2]
    exact (Cert.Row.kcode_eq (i 1).isLt _ _ (hr (i 0) (i 1)) (i 2)).symm
  · funext i
    unfold rS kS
    rw [h0, h1, h2]
    exact (Cert.Row.kscale_eq (i 1).isLt _ _ (hr (i 0) (i 1))).symm

/-- Both programs run and end with equal results. -/
theorem algebraic : Cert.algebraic_KernelIdeal_ReferenceIdeal_pre_in_range := by
  intro m g m' g' hpre hagree
  refine ⟨kC m, kS m, Cert.KernelIdeal.RowValue.run m g, ?_⟩
  refine (θ_run _ _ _).mono (fun r h c => ?_) (Cert.ReferenceIdeal.RefValue.run m' g')
  have e := equal m m' hpre c (hagree c).1 (hagree c).2.1 (hagree c).2.2
  exact ⟨(h c).1.trans e.1, (h c).2.1.trans e.2, (h c).2.2⟩

theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial, algebraic⟩

end Cert.Proof

end
